-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S4096x2048 : Shape := ⟨2, ![4096, 2048]⟩
abbrev S8x128x1024 : Shape := ⟨3, ![8, 128, 1024]⟩
abbrev S2x128x1024 : Shape := ⟨3, ![2, 128, 1024]⟩
abbrev S30 : Shape := ⟨1, ![30]⟩
abbrev S8 : Shape := ⟨1, ![8]⟩
abbrev S_ : Shape := ⟨0, ![]⟩
abbrev S256x256 : Shape := ⟨2, ![256, 256]⟩
abbrev S128x1024 : Shape := ⟨2, ![128, 1024]⟩
abbrev S1x128x1024 : Shape := ⟨3, ![1, 128, 1024]⟩
abbrev S1 : Shape := ⟨1, ![1]⟩

abbrev nBuf : Space → Nat
  | .hbm => 3
  | .vmem => 11
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x2048, .f32⟩
  | .local _ .vmem, ⟨0, _⟩ => ⟨S4096x256, .f32⟩
  | .local _ .vmem, ⟨1, _⟩ => ⟨S256x2048, .f32⟩
  | .local _ .vmem, ⟨2, _⟩ => ⟨S4096x2048, .f32⟩
  | .local _ .vmem, ⟨3, _⟩ => ⟨S8x128x1024, .bf16⟩
  | .local _ .vmem, ⟨4, _⟩ => ⟨S8x128x1024, .bf16⟩
  | .local _ .vmem, ⟨5, _⟩ => ⟨S8x128x1024, .bf16⟩
  | .local _ .vmem, ⟨6, _⟩ => ⟨S8x128x1024, .bf16⟩
  | .local _ .vmem, ⟨7, _⟩ => ⟨S8x128x1024, .bf16⟩
  | .local _ .vmem, ⟨8, _⟩ => ⟨S8x128x1024, .bf16⟩
  | .local _ .vmem, ⟨9, _⟩ => ⟨S2x128x1024, .bf16⟩
  | .local _ .vmem, ⟨10, _⟩ => ⟨S2x128x1024, .bf16⟩
  | _, _ => ⟨S4096x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => false
  | _ => false

abbrev dmaSemScoped : Fin 243 → Bool
  | ⟨i, _⟩ => dmaSemScopedAt i

abbrev sig : RefSig :=
  (ofTc nBuf bufTy 33 243 bufScoped semScoped dmaSemScoped tileCredit tileCredit_eq_zero tileCredit_pos).withBarriers [(0, 32)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_sem0_0 : DmaSem sig := 0
abbrev cc0_sem1_0 : DmaSem sig := 1
abbrev cc0_sem2_0 : DmaSem sig := 2
abbrev barrier0 : Sem sig := 32

abbrev nD : Nat := 16
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v30 : BitVec 32 := Scalar.muli v2 c256_i32
  let v31 : Index := Scalar.indexCast v30
  let c0 : Index := 0#32
  ![v31.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_21 : BitVec 32 := 256#32
  let v37 : BitVec 32 := Scalar.muli v2 c256_i32_21
  let v38 : Index := Scalar.indexCast v37
  let c0_22 : Index := 0#32
  ![v38.toNat, 0]
def k0_off3 (d0 : Dev nD) (c0_i32_24 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_23 : BitVec 32 := 256#32
  let v40 : BitVec 32 := Scalar.muli v2 c256_i32_23
  let v41 : BitVec 32 := Scalar.addi v40 c0_i32_24
  let v42 : Index := Scalar.indexCast v41
  let c0_25 : Index := 0#32
  ![v42.toNat, 0]
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_33 : BitVec 32 := 1#32
  let v49 : BitVec 32 := Scalar.muli v24 c1_i32_33
  let v50 : BitVec 32 := Scalar.addi c0_i32_34 v49
  v50.toNat
def k0_off4 (d0 : Dev nD) (c0_i32_40 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_39 : BitVec 32 := 256#32
  let v59 : BitVec 32 := Scalar.muli v2 c256_i32_39
  let v60 : BitVec 32 := Scalar.addi v59 c0_i32_40
  let v61 : Index := Scalar.indexCast v60
  let c1024 : Index := 1024#32
  ![v61.toNat, 1024]
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_48 : BitVec 32 := 1#32
  let v68 : BitVec 32 := Scalar.muli v13 c1_i32_48
  let v69 : BitVec 32 := Scalar.addi c0_i32_49 v68
  v69.toNat
def k0_dev5 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_62 : BitVec 32 := 1#32
  let v87 : BitVec 32 := Scalar.muli v24 c1_i32_62
  let v88 : BitVec 32 := Scalar.addi c0_i32_63 v87
  v88.toNat
def k0_dev6 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_78 : BitVec 32 := 1#32
  let v106 : BitVec 32 := Scalar.muli v13 c1_i32_78
  let v107 : BitVec 32 := Scalar.addi c0_i32_79 v106
  v107.toNat
def k0_off5 (d0 : Dev nD) (c_m1_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v116 : BitVec 32 := Scalar.addi v2 c_m1_i32
  let c16_i32_84 : BitVec 32 := 16#32
  let c0_i32_85 : BitVec 32 := 0#32
  let v117 : BitVec 1 := Scalar.cmpi .eq c16_i32_84 c0_i32_85
  let c1_i32_86 : BitVec 32 := 1#32
  let v118 : BitVec 32 := Scalar.select v117 c1_i32_86 c16_i32_84
  let v119 : BitVec 32 := Scalar.remsi v116 v118
  let c0_i32_88 : BitVec 32 := 0#32
  let v121 : BitVec 1 := Scalar.cmpi .slt v119 c0_i32_88
  let c0_i32_89 : BitVec 32 := 0#32
  let v122 : BitVec 1 := Scalar.cmpi .slt v118 c0_i32_89
  let v123 : BitVec 1 := Scalar.xori v121 v122
  let c0_i32_87 : BitVec 32 := 0#32
  let v120 : BitVec 1 := Scalar.cmpi .ne v119 c0_i32_87
  let v124 : BitVec 1 := Scalar.andi v123 v120
  let v125 : BitVec 32 := Scalar.addi v119 v118
  let v126 : BitVec 32 := Scalar.select v124 v125 v119
  let c256_i32_90 : BitVec 32 := 256#32
  let v127 : BitVec 32 := Scalar.muli v126 c256_i32_90
  let v128 : Index := Scalar.indexCast v127
  let c0_91 : Index := 0#32
  ![v128.toNat, 0]
def k0_off5_at (r : Fin 15) : BitVec 32 :=
  if r.val < 7 then
    if r.val < 3 then
      if r.val < 1 then
        4294967295#32
      else
        if r.val < 2 then
          1#32
        else
          4294967294#32
    else
      if r.val < 5 then
        if r.val < 4 then
          2#32
        else
          4294967293#32
      else
        if r.val < 6 then
          3#32
        else
          4294967292#32
  else
    if r.val < 11 then
      if r.val < 9 then
        if r.val < 8 then
          4#32
        else
          4294967291#32
      else
        if r.val < 10 then
          5#32
        else
          4294967290#32
    else
      if r.val < 13 then
        if r.val < 12 then
          6#32
        else
          4294967289#32
      else
        if r.val < 14 then
          7#32
        else
          8#32
def k0_off6 (d0 : Dev nD) (c_m1_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v116 : BitVec 32 := Scalar.addi v2 c_m1_i32
  let c16_i32_84 : BitVec 32 := 16#32
  let c0_i32_85 : BitVec 32 := 0#32
  let v117 : BitVec 1 := Scalar.cmpi .eq c16_i32_84 c0_i32_85
  let c1_i32_86 : BitVec 32 := 1#32
  let v118 : BitVec 32 := Scalar.select v117 c1_i32_86 c16_i32_84
  let v119 : BitVec 32 := Scalar.remsi v116 v118
  let c0_i32_88 : BitVec 32 := 0#32
  let v121 : BitVec 1 := Scalar.cmpi .slt v119 c0_i32_88
  let c0_i32_89 : BitVec 32 := 0#32
  let v122 : BitVec 1 := Scalar.cmpi .slt v118 c0_i32_89
  let v123 : BitVec 1 := Scalar.xori v121 v122
  let c0_i32_87 : BitVec 32 := 0#32
  let v120 : BitVec 1 := Scalar.cmpi .ne v119 c0_i32_87
  let v124 : BitVec 1 := Scalar.andi v123 v120
  let v125 : BitVec 32 := Scalar.addi v119 v118
  let v126 : BitVec 32 := Scalar.select v124 v125 v119
  let c256_i32_95 : BitVec 32 := 256#32
  let v134 : BitVec 32 := Scalar.muli v126 c256_i32_95
  let v135 : Index := Scalar.indexCast v134
  let c0_96 : Index := 0#32
  ![v135.toNat, 0]
def k0_off6_at (r : Fin 15) : BitVec 32 :=
  if r.val < 7 then
    if r.val < 3 then
      if r.val < 1 then
        4294967295#32
      else
        if r.val < 2 then
          1#32
        else
          4294967294#32
    else
      if r.val < 5 then
        if r.val < 4 then
          2#32
        else
          4294967293#32
      else
        if r.val < 6 then
          3#32
        else
          4294967292#32
  else
    if r.val < 11 then
      if r.val < 9 then
        if r.val < 8 then
          4#32
        else
          4294967291#32
      else
        if r.val < 10 then
          5#32
        else
          4294967290#32
    else
      if r.val < 13 then
        if r.val < 12 then
          6#32
        else
          4294967289#32
      else
        if r.val < 14 then
          7#32
        else
          8#32
def k0_off7 (d0 : Dev nD) (c0_i32_281 : BitVec 32) (c0_i32_308 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v431 : BitVec 32 := Scalar.subi v2 c0_i32_281
  let c1_i32_282 : BitVec 32 := 1#32
  let v432 : BitVec 32 := Scalar.subi v431 c1_i32_282
  let c16_i32_283 : BitVec 32 := 16#32
  let c0_i32_284 : BitVec 32 := 0#32
  let v433 : BitVec 1 := Scalar.cmpi .eq c16_i32_283 c0_i32_284
  let c1_i32_285 : BitVec 32 := 1#32
  let v434 : BitVec 32 := Scalar.select v433 c1_i32_285 c16_i32_283
  let v435 : BitVec 32 := Scalar.remsi v432 v434
  let c0_i32_287 : BitVec 32 := 0#32
  let v437 : BitVec 1 := Scalar.cmpi .slt v435 c0_i32_287
  let c0_i32_288 : BitVec 32 := 0#32
  let v438 : BitVec 1 := Scalar.cmpi .slt v434 c0_i32_288
  let v439 : BitVec 1 := Scalar.xori v437 v438
  let c0_i32_286 : BitVec 32 := 0#32
  let v436 : BitVec 1 := Scalar.cmpi .ne v435 c0_i32_286
  let v440 : BitVec 1 := Scalar.andi v439 v436
  let v441 : BitVec 32 := Scalar.addi v435 v434
  let v442 : BitVec 32 := Scalar.select v440 v441 v435
  let c256_i32_307 : BitVec 32 := 256#32
  let v463 : BitVec 32 := Scalar.muli v442 c256_i32_307
  let v464 : BitVec 32 := Scalar.addi v463 c0_i32_308
  let v465 : Index := Scalar.indexCast v464
  let c0_309 : Index := 0#32
  ![v465.toNat, 0]
def k0_dev7 (d0 : Dev nD) : Nat :=
  let c0_i32_320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_319 : BitVec 32 := 1#32
  let v476 : BitVec 32 := Scalar.muli v24 c1_i32_319
  let v477 : BitVec 32 := Scalar.addi c0_i32_320 v476
  v477.toNat
def k0_off8 (d0 : Dev nD) (c0_i32_289 : BitVec 32) (c0_i32_336 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v443 : BitVec 32 := Scalar.addi v2 c0_i32_289
  let c1_i32_290 : BitVec 32 := 1#32
  let v444 : BitVec 32 := Scalar.addi v443 c1_i32_290
  let c16_i32_291 : BitVec 32 := 16#32
  let c0_i32_292 : BitVec 32 := 0#32
  let v445 : BitVec 1 := Scalar.cmpi .eq c16_i32_291 c0_i32_292
  let c1_i32_293 : BitVec 32 := 1#32
  let v446 : BitVec 32 := Scalar.select v445 c1_i32_293 c16_i32_291
  let v447 : BitVec 32 := Scalar.remsi v444 v446
  let c0_i32_295 : BitVec 32 := 0#32
  let v449 : BitVec 1 := Scalar.cmpi .slt v447 c0_i32_295
  let c0_i32_296 : BitVec 32 := 0#32
  let v450 : BitVec 1 := Scalar.cmpi .slt v446 c0_i32_296
  let v451 : BitVec 1 := Scalar.xori v449 v450
  let c0_i32_294 : BitVec 32 := 0#32
  let v448 : BitVec 1 := Scalar.cmpi .ne v447 c0_i32_294
  let v452 : BitVec 1 := Scalar.andi v451 v448
  let v453 : BitVec 32 := Scalar.addi v447 v446
  let v454 : BitVec 32 := Scalar.select v452 v453 v447
  let c256_i32_335 : BitVec 32 := 256#32
  let v494 : BitVec 32 := Scalar.muli v454 c256_i32_335
  let v495 : BitVec 32 := Scalar.addi v494 c0_i32_336
  let v496 : Index := Scalar.indexCast v495
  let c1024_337 : Index := 1024#32
  ![v496.toNat, 1024]
def k0_dev8 (d0 : Dev nD) : Nat :=
  let c0_i32_349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_348 : BitVec 32 := 1#32
  let v507 : BitVec 32 := Scalar.muli v13 c1_i32_348
  let v508 : BitVec 32 := Scalar.addi c0_i32_349 v507
  v508.toNat
def k0_dev9 (d0 : Dev nD) : Nat :=
  let c0_i32_357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_356 : BitVec 32 := 1#32
  let v519 : BitVec 32 := Scalar.muli v13 c1_i32_356
  let v520 : BitVec 32 := Scalar.addi c0_i32_357 v519
  v520.toNat
def k0_dev10 (d0 : Dev nD) : Nat :=
  let c0_i32_361 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_360 : BitVec 32 := 1#32
  let v523 : BitVec 32 := Scalar.muli v24 c1_i32_360
  let v524 : BitVec 32 := Scalar.addi c0_i32_361 v523
  v524.toNat
def k0_dev11 (d0 : Dev nD) : Nat :=
  let c0_i32_401 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_400 : BitVec 32 := 1#32
  let v570 : BitVec 32 := Scalar.muli v24 c1_i32_400
  let v571 : BitVec 32 := Scalar.addi c0_i32_401 v570
  v571.toNat
def k0_dev12 (d0 : Dev nD) : Nat :=
  let c0_i32_430 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_429 : BitVec 32 := 1#32
  let v601 : BitVec 32 := Scalar.muli v13 c1_i32_429
  let v602 : BitVec 32 := Scalar.addi c0_i32_430 v601
  v602.toNat
def k0_dev13 (d0 : Dev nD) : Nat :=
  let c0_i32_438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_437 : BitVec 32 := 1#32
  let v613 : BitVec 32 := Scalar.muli v13 c1_i32_437
  let v614 : BitVec 32 := Scalar.addi c0_i32_438 v613
  v614.toNat
def k0_dev14 (d0 : Dev nD) : Nat :=
  let c0_i32_442 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_441 : BitVec 32 := 1#32
  let v617 : BitVec 32 := Scalar.muli v24 c1_i32_441
  let v618 : BitVec 32 := Scalar.addi c0_i32_442 v617
  v618.toNat
def k0_dev15 (d0 : Dev nD) : Nat :=
  let c0_i32_482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_481 : BitVec 32 := 1#32
  let v664 : BitVec 32 := Scalar.muli v24 c1_i32_481
  let v665 : BitVec 32 := Scalar.addi c0_i32_482 v664
  v665.toNat
def k0_dev16 (d0 : Dev nD) : Nat :=
  let c0_i32_511 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_510 : BitVec 32 := 1#32
  let v695 : BitVec 32 := Scalar.muli v13 c1_i32_510
  let v696 : BitVec 32 := Scalar.addi c0_i32_511 v695
  v696.toNat
def k0_dev17 (d0 : Dev nD) : Nat :=
  let c0_i32_519 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_518 : BitVec 32 := 1#32
  let v707 : BitVec 32 := Scalar.muli v13 c1_i32_518
  let v708 : BitVec 32 := Scalar.addi c0_i32_519 v707
  v708.toNat
def k0_dev18 (d0 : Dev nD) : Nat :=
  let c0_i32_523 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_522 : BitVec 32 := 1#32
  let v711 : BitVec 32 := Scalar.muli v24 c1_i32_522
  let v712 : BitVec 32 := Scalar.addi c0_i32_523 v711
  v712.toNat
def k0_dev19 (d0 : Dev nD) : Nat :=
  let c0_i32_563 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_562 : BitVec 32 := 1#32
  let v758 : BitVec 32 := Scalar.muli v24 c1_i32_562
  let v759 : BitVec 32 := Scalar.addi c0_i32_563 v758
  v759.toNat
def k0_dev20 (d0 : Dev nD) : Nat :=
  let c0_i32_592 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_591 : BitVec 32 := 1#32
  let v789 : BitVec 32 := Scalar.muli v13 c1_i32_591
  let v790 : BitVec 32 := Scalar.addi c0_i32_592 v789
  v790.toNat
def k0_dev21 (d0 : Dev nD) : Nat :=
  let c0_i32_600 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_599 : BitVec 32 := 1#32
  let v801 : BitVec 32 := Scalar.muli v13 c1_i32_599
  let v802 : BitVec 32 := Scalar.addi c0_i32_600 v801
  v802.toNat
def k0_dev22 (d0 : Dev nD) : Nat :=
  let c0_i32_604 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_603 : BitVec 32 := 1#32
  let v805 : BitVec 32 := Scalar.muli v24 c1_i32_603
  let v806 : BitVec 32 := Scalar.addi c0_i32_604 v805
  v806.toNat
def k0_dev23 (d0 : Dev nD) : Nat :=
  let c0_i32_644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_643 : BitVec 32 := 1#32
  let v852 : BitVec 32 := Scalar.muli v24 c1_i32_643
  let v853 : BitVec 32 := Scalar.addi c0_i32_644 v852
  v853.toNat
def k0_dev24 (d0 : Dev nD) : Nat :=
  let c0_i32_673 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_672 : BitVec 32 := 1#32
  let v883 : BitVec 32 := Scalar.muli v13 c1_i32_672
  let v884 : BitVec 32 := Scalar.addi c0_i32_673 v883
  v884.toNat
def k0_dev25 (d0 : Dev nD) : Nat :=
  let c0_i32_681 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_680 : BitVec 32 := 1#32
  let v895 : BitVec 32 := Scalar.muli v13 c1_i32_680
  let v896 : BitVec 32 := Scalar.addi c0_i32_681 v895
  v896.toNat
def k0_dev26 (d0 : Dev nD) : Nat :=
  let c0_i32_685 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_684 : BitVec 32 := 1#32
  let v899 : BitVec 32 := Scalar.muli v24 c1_i32_684
  let v900 : BitVec 32 := Scalar.addi c0_i32_685 v899
  v900.toNat
def k0_dev27 (d0 : Dev nD) : Nat :=
  let c0_i32_725 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_724 : BitVec 32 := 1#32
  let v946 : BitVec 32 := Scalar.muli v24 c1_i32_724
  let v947 : BitVec 32 := Scalar.addi c0_i32_725 v946
  v947.toNat
def k0_dev28 (d0 : Dev nD) : Nat :=
  let c0_i32_754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_753 : BitVec 32 := 1#32
  let v977 : BitVec 32 := Scalar.muli v13 c1_i32_753
  let v978 : BitVec 32 := Scalar.addi c0_i32_754 v977
  v978.toNat
def k0_dev29 (d0 : Dev nD) : Nat :=
  let c0_i32_762 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_761 : BitVec 32 := 1#32
  let v989 : BitVec 32 := Scalar.muli v13 c1_i32_761
  let v990 : BitVec 32 := Scalar.addi c0_i32_762 v989
  v990.toNat
def k0_dev30 (d0 : Dev nD) : Nat :=
  let c0_i32_766 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_765 : BitVec 32 := 1#32
  let v993 : BitVec 32 := Scalar.muli v24 c1_i32_765
  let v994 : BitVec 32 := Scalar.addi c0_i32_766 v993
  v994.toNat
def k0_dev31 (d0 : Dev nD) : Nat :=
  let c0_i32_828 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_827 : BitVec 32 := 1#32
  let v1054 : BitVec 32 := Scalar.muli v24 c1_i32_827
  let v1055 : BitVec 32 := Scalar.addi c0_i32_828 v1054
  v1055.toNat
def k0_dev32 (d0 : Dev nD) : Nat :=
  let c0_i32_860 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_859 : BitVec 32 := 1#32
  let v1087 : BitVec 32 := Scalar.muli v13 c1_i32_859
  let v1088 : BitVec 32 := Scalar.addi c0_i32_860 v1087
  v1088.toNat
def k0_dev33 (d0 : Dev nD) : Nat :=
  let c0_i32_868 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_867 : BitVec 32 := 1#32
  let v1099 : BitVec 32 := Scalar.muli v13 c1_i32_867
  let v1100 : BitVec 32 := Scalar.addi c0_i32_868 v1099
  v1100.toNat
def k0_dev34 (d0 : Dev nD) : Nat :=
  let c0_i32_872 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_871 : BitVec 32 := 1#32
  let v1103 : BitVec 32 := Scalar.muli v24 c1_i32_871
  let v1104 : BitVec 32 := Scalar.addi c0_i32_872 v1103
  v1104.toNat
def k0_dev35 (d0 : Dev nD) : Nat :=
  let c0_i32_933 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_932 : BitVec 32 := 1#32
  let v1164 : BitVec 32 := Scalar.muli v24 c1_i32_932
  let v1165 : BitVec 32 := Scalar.addi c0_i32_933 v1164
  v1165.toNat
def k0_dev36 (d0 : Dev nD) : Nat :=
  let c0_i32_965 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_964 : BitVec 32 := 1#32
  let v1197 : BitVec 32 := Scalar.muli v13 c1_i32_964
  let v1198 : BitVec 32 := Scalar.addi c0_i32_965 v1197
  v1198.toNat
def k0_dev37 (d0 : Dev nD) : Nat :=
  let c0_i32_973 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_972 : BitVec 32 := 1#32
  let v1209 : BitVec 32 := Scalar.muli v13 c1_i32_972
  let v1210 : BitVec 32 := Scalar.addi c0_i32_973 v1209
  v1210.toNat
def k0_dev38 (d0 : Dev nD) : Nat :=
  let c0_i32_977 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_976 : BitVec 32 := 1#32
  let v1213 : BitVec 32 := Scalar.muli v24 c1_i32_976
  let v1214 : BitVec 32 := Scalar.addi c0_i32_977 v1213
  v1214.toNat
def k0_dev39 (d0 : Dev nD) : Nat :=
  let c0_i32_1038 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1037 : BitVec 32 := 1#32
  let v1274 : BitVec 32 := Scalar.muli v24 c1_i32_1037
  let v1275 : BitVec 32 := Scalar.addi c0_i32_1038 v1274
  v1275.toNat
def k0_dev40 (d0 : Dev nD) : Nat :=
  let c0_i32_1070 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1069 : BitVec 32 := 1#32
  let v1307 : BitVec 32 := Scalar.muli v13 c1_i32_1069
  let v1308 : BitVec 32 := Scalar.addi c0_i32_1070 v1307
  v1308.toNat
def k0_dev41 (d0 : Dev nD) : Nat :=
  let c0_i32_1078 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1077 : BitVec 32 := 1#32
  let v1319 : BitVec 32 := Scalar.muli v13 c1_i32_1077
  let v1320 : BitVec 32 := Scalar.addi c0_i32_1078 v1319
  v1320.toNat
def k0_dev42 (d0 : Dev nD) : Nat :=
  let c0_i32_1082 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1081 : BitVec 32 := 1#32
  let v1323 : BitVec 32 := Scalar.muli v24 c1_i32_1081
  let v1324 : BitVec 32 := Scalar.addi c0_i32_1082 v1323
  v1324.toNat
def k0_dev43 (d0 : Dev nD) : Nat :=
  let c0_i32_1143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1142 : BitVec 32 := 1#32
  let v1384 : BitVec 32 := Scalar.muli v24 c1_i32_1142
  let v1385 : BitVec 32 := Scalar.addi c0_i32_1143 v1384
  v1385.toNat
def k0_dev44 (d0 : Dev nD) : Nat :=
  let c0_i32_1175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1174 : BitVec 32 := 1#32
  let v1417 : BitVec 32 := Scalar.muli v13 c1_i32_1174
  let v1418 : BitVec 32 := Scalar.addi c0_i32_1175 v1417
  v1418.toNat
def k0_dev45 (d0 : Dev nD) : Nat :=
  let c0_i32_1183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1182 : BitVec 32 := 1#32
  let v1429 : BitVec 32 := Scalar.muli v13 c1_i32_1182
  let v1430 : BitVec 32 := Scalar.addi c0_i32_1183 v1429
  v1430.toNat
def k0_dev46 (d0 : Dev nD) : Nat :=
  let c0_i32_1187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1186 : BitVec 32 := 1#32
  let v1433 : BitVec 32 := Scalar.muli v24 c1_i32_1186
  let v1434 : BitVec 32 := Scalar.addi c0_i32_1187 v1433
  v1434.toNat
def k0_dev47 (d0 : Dev nD) : Nat :=
  let c0_i32_1248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1247 : BitVec 32 := 1#32
  let v1494 : BitVec 32 := Scalar.muli v24 c1_i32_1247
  let v1495 : BitVec 32 := Scalar.addi c0_i32_1248 v1494
  v1495.toNat
def k0_dev48 (d0 : Dev nD) : Nat :=
  let c0_i32_1280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1279 : BitVec 32 := 1#32
  let v1527 : BitVec 32 := Scalar.muli v13 c1_i32_1279
  let v1528 : BitVec 32 := Scalar.addi c0_i32_1280 v1527
  v1528.toNat
def k0_dev49 (d0 : Dev nD) : Nat :=
  let c0_i32_1288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1287 : BitVec 32 := 1#32
  let v1539 : BitVec 32 := Scalar.muli v13 c1_i32_1287
  let v1540 : BitVec 32 := Scalar.addi c0_i32_1288 v1539
  v1540.toNat
def k0_dev50 (d0 : Dev nD) : Nat :=
  let c0_i32_1292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1291 : BitVec 32 := 1#32
  let v1543 : BitVec 32 := Scalar.muli v24 c1_i32_1291
  let v1544 : BitVec 32 := Scalar.addi c0_i32_1292 v1543
  v1544.toNat
def k0_dev51 (d0 : Dev nD) : Nat :=
  let c0_i32_1353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1352 : BitVec 32 := 1#32
  let v1604 : BitVec 32 := Scalar.muli v24 c1_i32_1352
  let v1605 : BitVec 32 := Scalar.addi c0_i32_1353 v1604
  v1605.toNat
def k0_dev52 (d0 : Dev nD) : Nat :=
  let c0_i32_1385 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1384 : BitVec 32 := 1#32
  let v1637 : BitVec 32 := Scalar.muli v13 c1_i32_1384
  let v1638 : BitVec 32 := Scalar.addi c0_i32_1385 v1637
  v1638.toNat
def k0_dev53 (d0 : Dev nD) : Nat :=
  let c0_i32_1393 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1392 : BitVec 32 := 1#32
  let v1649 : BitVec 32 := Scalar.muli v13 c1_i32_1392
  let v1650 : BitVec 32 := Scalar.addi c0_i32_1393 v1649
  v1650.toNat
def k0_dev54 (d0 : Dev nD) : Nat :=
  let c0_i32_1397 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1396 : BitVec 32 := 1#32
  let v1653 : BitVec 32 := Scalar.muli v24 c1_i32_1396
  let v1654 : BitVec 32 := Scalar.addi c0_i32_1397 v1653
  v1654.toNat
def k0_dev55 (d0 : Dev nD) : Nat :=
  let c0_i32_1458 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1457 : BitVec 32 := 1#32
  let v1714 : BitVec 32 := Scalar.muli v24 c1_i32_1457
  let v1715 : BitVec 32 := Scalar.addi c0_i32_1458 v1714
  v1715.toNat
def k0_dev56 (d0 : Dev nD) : Nat :=
  let c0_i32_1490 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1489 : BitVec 32 := 1#32
  let v1747 : BitVec 32 := Scalar.muli v13 c1_i32_1489
  let v1748 : BitVec 32 := Scalar.addi c0_i32_1490 v1747
  v1748.toNat
def k0_dev57 (d0 : Dev nD) : Nat :=
  let c0_i32_1498 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1497 : BitVec 32 := 1#32
  let v1759 : BitVec 32 := Scalar.muli v13 c1_i32_1497
  let v1760 : BitVec 32 := Scalar.addi c0_i32_1498 v1759
  v1760.toNat
def k0_dev58 (d0 : Dev nD) : Nat :=
  let c0_i32_1502 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1501 : BitVec 32 := 1#32
  let v1763 : BitVec 32 := Scalar.muli v24 c1_i32_1501
  let v1764 : BitVec 32 := Scalar.addi c0_i32_1502 v1763
  v1764.toNat
def k0_dev59 (d0 : Dev nD) : Nat :=
  let c0_i32_1563 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1562 : BitVec 32 := 1#32
  let v1824 : BitVec 32 := Scalar.muli v24 c1_i32_1562
  let v1825 : BitVec 32 := Scalar.addi c0_i32_1563 v1824
  v1825.toNat
def k0_dev60 (d0 : Dev nD) : Nat :=
  let c0_i32_1595 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1594 : BitVec 32 := 1#32
  let v1857 : BitVec 32 := Scalar.muli v13 c1_i32_1594
  let v1858 : BitVec 32 := Scalar.addi c0_i32_1595 v1857
  v1858.toNat
def k0_dev61 (d0 : Dev nD) : Nat :=
  let c0_i32_1603 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1602 : BitVec 32 := 1#32
  let v1869 : BitVec 32 := Scalar.muli v13 c1_i32_1602
  let v1870 : BitVec 32 := Scalar.addi c0_i32_1603 v1869
  v1870.toNat
def k0_dev62 (d0 : Dev nD) : Nat :=
  let c0_i32_1607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1606 : BitVec 32 := 1#32
  let v1873 : BitVec 32 := Scalar.muli v24 c1_i32_1606
  let v1874 : BitVec 32 := Scalar.addi c0_i32_1607 v1873
  v1874.toNat
def k0_dev63 (d0 : Dev nD) : Nat :=
  let c0_i32_1669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1668 : BitVec 32 := 1#32
  let v1934 : BitVec 32 := Scalar.muli v24 c1_i32_1668
  let v1935 : BitVec 32 := Scalar.addi c0_i32_1669 v1934
  v1935.toNat
def k0_dev64 (d0 : Dev nD) : Nat :=
  let c0_i32_1701 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1700 : BitVec 32 := 1#32
  let v1967 : BitVec 32 := Scalar.muli v13 c1_i32_1700
  let v1968 : BitVec 32 := Scalar.addi c0_i32_1701 v1967
  v1968.toNat
def k0_dev65 (d0 : Dev nD) : Nat :=
  let c0_i32_1709 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1708 : BitVec 32 := 1#32
  let v1979 : BitVec 32 := Scalar.muli v13 c1_i32_1708
  let v1980 : BitVec 32 := Scalar.addi c0_i32_1709 v1979
  v1980.toNat
def k0_dev66 (d0 : Dev nD) : Nat :=
  let c0_i32_1713 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1712 : BitVec 32 := 1#32
  let v1983 : BitVec 32 := Scalar.muli v24 c1_i32_1712
  let v1984 : BitVec 32 := Scalar.addi c0_i32_1713 v1983
  v1984.toNat
def k0_dev67 (d0 : Dev nD) : Nat :=
  let c0_i32_1774 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1773 : BitVec 32 := 1#32
  let v2044 : BitVec 32 := Scalar.muli v24 c1_i32_1773
  let v2045 : BitVec 32 := Scalar.addi c0_i32_1774 v2044
  v2045.toNat
def k0_dev68 (d0 : Dev nD) : Nat :=
  let c0_i32_1806 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1805 : BitVec 32 := 1#32
  let v2077 : BitVec 32 := Scalar.muli v13 c1_i32_1805
  let v2078 : BitVec 32 := Scalar.addi c0_i32_1806 v2077
  v2078.toNat
def k0_dev69 (d0 : Dev nD) : Nat :=
  let c0_i32_1814 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1813 : BitVec 32 := 1#32
  let v2089 : BitVec 32 := Scalar.muli v13 c1_i32_1813
  let v2090 : BitVec 32 := Scalar.addi c0_i32_1814 v2089
  v2090.toNat
def k0_dev70 (d0 : Dev nD) : Nat :=
  let c0_i32_1818 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1817 : BitVec 32 := 1#32
  let v2093 : BitVec 32 := Scalar.muli v24 c1_i32_1817
  let v2094 : BitVec 32 := Scalar.addi c0_i32_1818 v2093
  v2094.toNat
def k0_dev71 (d0 : Dev nD) : Nat :=
  let c0_i32_1879 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1878 : BitVec 32 := 1#32
  let v2154 : BitVec 32 := Scalar.muli v24 c1_i32_1878
  let v2155 : BitVec 32 := Scalar.addi c0_i32_1879 v2154
  v2155.toNat
def k0_dev72 (d0 : Dev nD) : Nat :=
  let c0_i32_1911 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1910 : BitVec 32 := 1#32
  let v2187 : BitVec 32 := Scalar.muli v13 c1_i32_1910
  let v2188 : BitVec 32 := Scalar.addi c0_i32_1911 v2187
  v2188.toNat
def k0_dev73 (d0 : Dev nD) : Nat :=
  let c0_i32_1919 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1918 : BitVec 32 := 1#32
  let v2199 : BitVec 32 := Scalar.muli v13 c1_i32_1918
  let v2200 : BitVec 32 := Scalar.addi c0_i32_1919 v2199
  v2200.toNat
def k0_dev74 (d0 : Dev nD) : Nat :=
  let c0_i32_1923 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1922 : BitVec 32 := 1#32
  let v2203 : BitVec 32 := Scalar.muli v24 c1_i32_1922
  let v2204 : BitVec 32 := Scalar.addi c0_i32_1923 v2203
  v2204.toNat
def k0_dev75 (d0 : Dev nD) : Nat :=
  let c0_i32_1984 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1983 : BitVec 32 := 1#32
  let v2264 : BitVec 32 := Scalar.muli v24 c1_i32_1983
  let v2265 : BitVec 32 := Scalar.addi c0_i32_1984 v2264
  v2265.toNat
def k0_dev76 (d0 : Dev nD) : Nat :=
  let c0_i32_2016 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2015 : BitVec 32 := 1#32
  let v2297 : BitVec 32 := Scalar.muli v13 c1_i32_2015
  let v2298 : BitVec 32 := Scalar.addi c0_i32_2016 v2297
  v2298.toNat
def k0_dev77 (d0 : Dev nD) : Nat :=
  let c0_i32_2024 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2023 : BitVec 32 := 1#32
  let v2309 : BitVec 32 := Scalar.muli v13 c1_i32_2023
  let v2310 : BitVec 32 := Scalar.addi c0_i32_2024 v2309
  v2310.toNat
def k0_dev78 (d0 : Dev nD) : Nat :=
  let c0_i32_2028 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2027 : BitVec 32 := 1#32
  let v2313 : BitVec 32 := Scalar.muli v24 c1_i32_2027
  let v2314 : BitVec 32 := Scalar.addi c0_i32_2028 v2313
  v2314.toNat
def k0_dev79 (d0 : Dev nD) : Nat :=
  let c0_i32_2089 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2088 : BitVec 32 := 1#32
  let v2374 : BitVec 32 := Scalar.muli v24 c1_i32_2088
  let v2375 : BitVec 32 := Scalar.addi c0_i32_2089 v2374
  v2375.toNat
def k0_dev80 (d0 : Dev nD) : Nat :=
  let c0_i32_2121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2120 : BitVec 32 := 1#32
  let v2407 : BitVec 32 := Scalar.muli v13 c1_i32_2120
  let v2408 : BitVec 32 := Scalar.addi c0_i32_2121 v2407
  v2408.toNat
def k0_dev81 (d0 : Dev nD) : Nat :=
  let c0_i32_2129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2128 : BitVec 32 := 1#32
  let v2419 : BitVec 32 := Scalar.muli v13 c1_i32_2128
  let v2420 : BitVec 32 := Scalar.addi c0_i32_2129 v2419
  v2420.toNat
def k0_dev82 (d0 : Dev nD) : Nat :=
  let c0_i32_2133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2132 : BitVec 32 := 1#32
  let v2423 : BitVec 32 := Scalar.muli v24 c1_i32_2132
  let v2424 : BitVec 32 := Scalar.addi c0_i32_2133 v2423
  v2424.toNat
def k0_dev83 (d0 : Dev nD) : Nat :=
  let c0_i32_2194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2193 : BitVec 32 := 1#32
  let v2484 : BitVec 32 := Scalar.muli v24 c1_i32_2193
  let v2485 : BitVec 32 := Scalar.addi c0_i32_2194 v2484
  v2485.toNat
def k0_dev84 (d0 : Dev nD) : Nat :=
  let c0_i32_2226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2225 : BitVec 32 := 1#32
  let v2517 : BitVec 32 := Scalar.muli v13 c1_i32_2225
  let v2518 : BitVec 32 := Scalar.addi c0_i32_2226 v2517
  v2518.toNat
def k0_dev85 (d0 : Dev nD) : Nat :=
  let c0_i32_2234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2233 : BitVec 32 := 1#32
  let v2529 : BitVec 32 := Scalar.muli v13 c1_i32_2233
  let v2530 : BitVec 32 := Scalar.addi c0_i32_2234 v2529
  v2530.toNat
def k0_dev86 (d0 : Dev nD) : Nat :=
  let c0_i32_2238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2237 : BitVec 32 := 1#32
  let v2533 : BitVec 32 := Scalar.muli v24 c1_i32_2237
  let v2534 : BitVec 32 := Scalar.addi c0_i32_2238 v2533
  v2534.toNat
def k0_dev87 (d0 : Dev nD) : Nat :=
  let c0_i32_2299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2298 : BitVec 32 := 1#32
  let v2594 : BitVec 32 := Scalar.muli v24 c1_i32_2298
  let v2595 : BitVec 32 := Scalar.addi c0_i32_2299 v2594
  v2595.toNat
def k0_dev88 (d0 : Dev nD) : Nat :=
  let c0_i32_2331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2330 : BitVec 32 := 1#32
  let v2627 : BitVec 32 := Scalar.muli v13 c1_i32_2330
  let v2628 : BitVec 32 := Scalar.addi c0_i32_2331 v2627
  v2628.toNat
def k0_dev89 (d0 : Dev nD) : Nat :=
  let c0_i32_2339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2338 : BitVec 32 := 1#32
  let v2639 : BitVec 32 := Scalar.muli v13 c1_i32_2338
  let v2640 : BitVec 32 := Scalar.addi c0_i32_2339 v2639
  v2640.toNat
def k0_dev90 (d0 : Dev nD) : Nat :=
  let c0_i32_2343 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2342 : BitVec 32 := 1#32
  let v2643 : BitVec 32 := Scalar.muli v24 c1_i32_2342
  let v2644 : BitVec 32 := Scalar.addi c0_i32_2343 v2643
  v2644.toNat
def k0_dev91 (d0 : Dev nD) : Nat :=
  let c0_i32_2404 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2403 : BitVec 32 := 1#32
  let v2704 : BitVec 32 := Scalar.muli v24 c1_i32_2403
  let v2705 : BitVec 32 := Scalar.addi c0_i32_2404 v2704
  v2705.toNat
def k0_dev92 (d0 : Dev nD) : Nat :=
  let c0_i32_2436 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2435 : BitVec 32 := 1#32
  let v2737 : BitVec 32 := Scalar.muli v13 c1_i32_2435
  let v2738 : BitVec 32 := Scalar.addi c0_i32_2436 v2737
  v2738.toNat
def k0_dev93 (d0 : Dev nD) : Nat :=
  let c0_i32_2444 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2443 : BitVec 32 := 1#32
  let v2749 : BitVec 32 := Scalar.muli v13 c1_i32_2443
  let v2750 : BitVec 32 := Scalar.addi c0_i32_2444 v2749
  v2750.toNat
def k0_dev94 (d0 : Dev nD) : Nat :=
  let c0_i32_2448 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2447 : BitVec 32 := 1#32
  let v2753 : BitVec 32 := Scalar.muli v24 c1_i32_2447
  let v2754 : BitVec 32 := Scalar.addi c0_i32_2448 v2753
  v2754.toNat
def k0_dev95 (d0 : Dev nD) : Nat :=
  let c0_i32_2509 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2508 : BitVec 32 := 1#32
  let v2814 : BitVec 32 := Scalar.muli v24 c1_i32_2508
  let v2815 : BitVec 32 := Scalar.addi c0_i32_2509 v2814
  v2815.toNat
def k0_dev96 (d0 : Dev nD) : Nat :=
  let c0_i32_2541 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2540 : BitVec 32 := 1#32
  let v2847 : BitVec 32 := Scalar.muli v13 c1_i32_2540
  let v2848 : BitVec 32 := Scalar.addi c0_i32_2541 v2847
  v2848.toNat
def k0_dev97 (d0 : Dev nD) : Nat :=
  let c0_i32_2606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2605 : BitVec 32 := 1#32
  let v2916 : BitVec 32 := Scalar.muli v24 c1_i32_2605
  let v2917 : BitVec 32 := Scalar.addi c0_i32_2606 v2916
  v2917.toNat
def k0_dev98 (d0 : Dev nD) : Nat :=
  let c0_i32_2638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2637 : BitVec 32 := 1#32
  let v2949 : BitVec 32 := Scalar.muli v13 c1_i32_2637
  let v2950 : BitVec 32 := Scalar.addi c0_i32_2638 v2949
  v2950.toNat
def k0_dev99 (d0 : Dev nD) : Nat :=
  let c0_i32_2703 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2702 : BitVec 32 := 1#32
  let v3018 : BitVec 32 := Scalar.muli v24 c1_i32_2702
  let v3019 : BitVec 32 := Scalar.addi c0_i32_2703 v3018
  v3019.toNat
def k0_dev100 (d0 : Dev nD) : Nat :=
  let c0_i32_2735 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2734 : BitVec 32 := 1#32
  let v3051 : BitVec 32 := Scalar.muli v13 c1_i32_2734
  let v3052 : BitVec 32 := Scalar.addi c0_i32_2735 v3051
  v3052.toNat
def k0_dev101 (d0 : Dev nD) : Nat :=
  let c0_i32_2800 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2799 : BitVec 32 := 1#32
  let v3120 : BitVec 32 := Scalar.muli v24 c1_i32_2799
  let v3121 : BitVec 32 := Scalar.addi c0_i32_2800 v3120
  v3121.toNat
def k0_dev102 (d0 : Dev nD) : Nat :=
  let c0_i32_2832 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2831 : BitVec 32 := 1#32
  let v3153 : BitVec 32 := Scalar.muli v13 c1_i32_2831
  let v3154 : BitVec 32 := Scalar.addi c0_i32_2832 v3153
  v3154.toNat
def k0_dev103 (d0 : Dev nD) : Nat :=
  let c0_i32_2897 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2896 : BitVec 32 := 1#32
  let v3222 : BitVec 32 := Scalar.muli v24 c1_i32_2896
  let v3223 : BitVec 32 := Scalar.addi c0_i32_2897 v3222
  v3223.toNat
def k0_dev104 (d0 : Dev nD) : Nat :=
  let c0_i32_2929 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2928 : BitVec 32 := 1#32
  let v3255 : BitVec 32 := Scalar.muli v13 c1_i32_2928
  let v3256 : BitVec 32 := Scalar.addi c0_i32_2929 v3255
  v3256.toNat
def k0_dev105 (d0 : Dev nD) : Nat :=
  let c0_i32_2994 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2993 : BitVec 32 := 1#32
  let v3324 : BitVec 32 := Scalar.muli v24 c1_i32_2993
  let v3325 : BitVec 32 := Scalar.addi c0_i32_2994 v3324
  v3325.toNat
def k0_dev106 (d0 : Dev nD) : Nat :=
  let c0_i32_3026 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3025 : BitVec 32 := 1#32
  let v3357 : BitVec 32 := Scalar.muli v13 c1_i32_3025
  let v3358 : BitVec 32 := Scalar.addi c0_i32_3026 v3357
  v3358.toNat
def k0_dev107 (d0 : Dev nD) : Nat :=
  let c0_i32_3096 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3095 : BitVec 32 := 1#32
  let v3438 : BitVec 32 := Scalar.muli v24 c1_i32_3095
  let v3439 : BitVec 32 := Scalar.addi c0_i32_3096 v3438
  v3439.toNat
def k0_dev108 (d0 : Dev nD) : Nat :=
  let c0_i32_3132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3131 : BitVec 32 := 1#32
  let v3483 : BitVec 32 := Scalar.muli v13 c1_i32_3131
  let v3484 : BitVec 32 := Scalar.addi c0_i32_3132 v3483
  v3484.toNat
def k0_dev109 (d0 : Dev nD) : Nat :=
  let c0_i32_3202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3201 : BitVec 32 := 1#32
  let v3564 : BitVec 32 := Scalar.muli v24 c1_i32_3201
  let v3565 : BitVec 32 := Scalar.addi c0_i32_3202 v3564
  v3565.toNat
def k0_dev110 (d0 : Dev nD) : Nat :=
  let c0_i32_3238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3237 : BitVec 32 := 1#32
  let v3609 : BitVec 32 := Scalar.muli v13 c1_i32_3237
  let v3610 : BitVec 32 := Scalar.addi c0_i32_3238 v3609
  v3610.toNat
def k0_off9 (d0 : Dev nD) (c0_i32_3243 : BitVec 32) (c0_i32_3271 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3619 : BitVec 32 := Scalar.subi v2 c0_i32_3243
  let c16_i32_3244 : BitVec 32 := 16#32
  let c0_i32_3245 : BitVec 32 := 0#32
  let v3620 : BitVec 1 := Scalar.cmpi .eq c16_i32_3244 c0_i32_3245
  let c1_i32_3246 : BitVec 32 := 1#32
  let v3621 : BitVec 32 := Scalar.select v3620 c1_i32_3246 c16_i32_3244
  let v3622 : BitVec 32 := Scalar.remsi v3619 v3621
  let c0_i32_3248 : BitVec 32 := 0#32
  let v3624 : BitVec 1 := Scalar.cmpi .slt v3622 c0_i32_3248
  let c0_i32_3249 : BitVec 32 := 0#32
  let v3625 : BitVec 1 := Scalar.cmpi .slt v3621 c0_i32_3249
  let v3626 : BitVec 1 := Scalar.xori v3624 v3625
  let c0_i32_3247 : BitVec 32 := 0#32
  let v3623 : BitVec 1 := Scalar.cmpi .ne v3622 c0_i32_3247
  let v3627 : BitVec 1 := Scalar.andi v3626 v3623
  let v3628 : BitVec 32 := Scalar.addi v3622 v3621
  let v3629 : BitVec 32 := Scalar.select v3627 v3628 v3622
  let c256_i32_3270 : BitVec 32 := 256#32
  let v3652 : BitVec 32 := Scalar.muli v3629 c256_i32_3270
  let v3653 : BitVec 32 := Scalar.addi v3652 c0_i32_3271
  let v3654 : Index := Scalar.indexCast v3653
  let c0_3272 : Index := 0#32
  ![v3654.toNat, 0]
def k0_dev111 (d0 : Dev nD) : Nat :=
  let c0_i32_3278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3277 : BitVec 32 := 1#32
  let v3656 : BitVec 32 := Scalar.muli v24 c1_i32_3277
  let v3657 : BitVec 32 := Scalar.addi c0_i32_3278 v3656
  v3657.toNat
def k0_off10 (d0 : Dev nD) (c0_i32_3250 : BitVec 32) (c0_i32_3297 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3630 : BitVec 32 := Scalar.addi v2 c0_i32_3250
  let c16_i32_3251 : BitVec 32 := 16#32
  let c0_i32_3252 : BitVec 32 := 0#32
  let v3631 : BitVec 1 := Scalar.cmpi .eq c16_i32_3251 c0_i32_3252
  let c1_i32_3253 : BitVec 32 := 1#32
  let v3632 : BitVec 32 := Scalar.select v3631 c1_i32_3253 c16_i32_3251
  let v3633 : BitVec 32 := Scalar.remsi v3630 v3632
  let c0_i32_3255 : BitVec 32 := 0#32
  let v3635 : BitVec 1 := Scalar.cmpi .slt v3633 c0_i32_3255
  let c0_i32_3256 : BitVec 32 := 0#32
  let v3636 : BitVec 1 := Scalar.cmpi .slt v3632 c0_i32_3256
  let v3637 : BitVec 1 := Scalar.xori v3635 v3636
  let c0_i32_3254 : BitVec 32 := 0#32
  let v3634 : BitVec 1 := Scalar.cmpi .ne v3633 c0_i32_3254
  let v3638 : BitVec 1 := Scalar.andi v3637 v3634
  let v3639 : BitVec 32 := Scalar.addi v3633 v3632
  let v3640 : BitVec 32 := Scalar.select v3638 v3639 v3633
  let c256_i32_3296 : BitVec 32 := 256#32
  let v3677 : BitVec 32 := Scalar.muli v3640 c256_i32_3296
  let v3678 : BitVec 32 := Scalar.addi v3677 c0_i32_3297
  let v3679 : Index := Scalar.indexCast v3678
  let c1024_3298 : Index := 1024#32
  ![v3679.toNat, 1024]
def k0_dev112 (d0 : Dev nD) : Nat :=
  let c0_i32_3304 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3303 : BitVec 32 := 1#32
  let v3681 : BitVec 32 := Scalar.muli v13 c1_i32_3303
  let v3682 : BitVec 32 := Scalar.addi c0_i32_3304 v3681
  v3682.toNat
def k0_dev113 (d0 : Dev nD) : Nat :=
  let c0_i32_3362 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3361 : BitVec 32 := 1#32
  let v3740 : BitVec 32 := Scalar.muli v24 c1_i32_3361
  let v3741 : BitVec 32 := Scalar.addi c0_i32_3362 v3740
  v3741.toNat
def k0_dev114 (d0 : Dev nD) : Nat :=
  let c0_i32_3388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3387 : BitVec 32 := 1#32
  let v3765 : BitVec 32 := Scalar.muli v13 c1_i32_3387
  let v3766 : BitVec 32 := Scalar.addi c0_i32_3388 v3765
  v3766.toNat
def k0_dev115 (d0 : Dev nD) : Nat :=
  let c0_i32_3446 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3445 : BitVec 32 := 1#32
  let v3824 : BitVec 32 := Scalar.muli v24 c1_i32_3445
  let v3825 : BitVec 32 := Scalar.addi c0_i32_3446 v3824
  v3825.toNat
def k0_dev116 (d0 : Dev nD) : Nat :=
  let c0_i32_3472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3471 : BitVec 32 := 1#32
  let v3849 : BitVec 32 := Scalar.muli v13 c1_i32_3471
  let v3850 : BitVec 32 := Scalar.addi c0_i32_3472 v3849
  v3850.toNat
def k0_dev117 (d0 : Dev nD) : Nat :=
  let c0_i32_3498 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3497 : BitVec 32 := 1#32
  let v3873 : BitVec 32 := Scalar.muli v13 c1_i32_3497
  let v3874 : BitVec 32 := Scalar.addi c0_i32_3498 v3873
  v3874.toNat
def k0_dev118 (d0 : Dev nD) : Nat :=
  let c0_i32_3502 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3501 : BitVec 32 := 1#32
  let v3877 : BitVec 32 := Scalar.muli v24 c1_i32_3501
  let v3878 : BitVec 32 := Scalar.addi c0_i32_3502 v3877
  v3878.toNat
def k0_dev119 (d0 : Dev nD) : Nat :=
  let c0_i32_3538 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3537 : BitVec 32 := 1#32
  let v3916 : BitVec 32 := Scalar.muli v24 c1_i32_3537
  let v3917 : BitVec 32 := Scalar.addi c0_i32_3538 v3916
  v3917.toNat
def k0_dev120 (d0 : Dev nD) : Nat :=
  let c0_i32_3564 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3563 : BitVec 32 := 1#32
  let v3941 : BitVec 32 := Scalar.muli v13 c1_i32_3563
  let v3942 : BitVec 32 := Scalar.addi c0_i32_3564 v3941
  v3942.toNat
def k0_dev121 (d0 : Dev nD) : Nat :=
  let c0_i32_3590 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3589 : BitVec 32 := 1#32
  let v3965 : BitVec 32 := Scalar.muli v13 c1_i32_3589
  let v3966 : BitVec 32 := Scalar.addi c0_i32_3590 v3965
  v3966.toNat
def k0_dev122 (d0 : Dev nD) : Nat :=
  let c0_i32_3594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3593 : BitVec 32 := 1#32
  let v3969 : BitVec 32 := Scalar.muli v24 c1_i32_3593
  let v3970 : BitVec 32 := Scalar.addi c0_i32_3594 v3969
  v3970.toNat
def k0_dev123 (d0 : Dev nD) : Nat :=
  let c0_i32_3630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3629 : BitVec 32 := 1#32
  let v4008 : BitVec 32 := Scalar.muli v24 c1_i32_3629
  let v4009 : BitVec 32 := Scalar.addi c0_i32_3630 v4008
  v4009.toNat
def k0_dev124 (d0 : Dev nD) : Nat :=
  let c0_i32_3656 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3655 : BitVec 32 := 1#32
  let v4033 : BitVec 32 := Scalar.muli v13 c1_i32_3655
  let v4034 : BitVec 32 := Scalar.addi c0_i32_3656 v4033
  v4034.toNat
def k0_dev125 (d0 : Dev nD) : Nat :=
  let c0_i32_3682 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3681 : BitVec 32 := 1#32
  let v4057 : BitVec 32 := Scalar.muli v13 c1_i32_3681
  let v4058 : BitVec 32 := Scalar.addi c0_i32_3682 v4057
  v4058.toNat
def k0_dev126 (d0 : Dev nD) : Nat :=
  let c0_i32_3686 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3685 : BitVec 32 := 1#32
  let v4061 : BitVec 32 := Scalar.muli v24 c1_i32_3685
  let v4062 : BitVec 32 := Scalar.addi c0_i32_3686 v4061
  v4062.toNat
def k0_dev127 (d0 : Dev nD) : Nat :=
  let c0_i32_3722 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3721 : BitVec 32 := 1#32
  let v4100 : BitVec 32 := Scalar.muli v24 c1_i32_3721
  let v4101 : BitVec 32 := Scalar.addi c0_i32_3722 v4100
  v4101.toNat
def k0_dev128 (d0 : Dev nD) : Nat :=
  let c0_i32_3748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3747 : BitVec 32 := 1#32
  let v4125 : BitVec 32 := Scalar.muli v13 c1_i32_3747
  let v4126 : BitVec 32 := Scalar.addi c0_i32_3748 v4125
  v4126.toNat
def k0_dev129 (d0 : Dev nD) : Nat :=
  let c0_i32_3774 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3773 : BitVec 32 := 1#32
  let v4149 : BitVec 32 := Scalar.muli v13 c1_i32_3773
  let v4150 : BitVec 32 := Scalar.addi c0_i32_3774 v4149
  v4150.toNat
def k0_dev130 (d0 : Dev nD) : Nat :=
  let c0_i32_3778 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3777 : BitVec 32 := 1#32
  let v4153 : BitVec 32 := Scalar.muli v24 c1_i32_3777
  let v4154 : BitVec 32 := Scalar.addi c0_i32_3778 v4153
  v4154.toNat
def k0_dev131 (d0 : Dev nD) : Nat :=
  let c0_i32_3817 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3816 : BitVec 32 := 1#32
  let v4194 : BitVec 32 := Scalar.muli v24 c1_i32_3816
  let v4195 : BitVec 32 := Scalar.addi c0_i32_3817 v4194
  v4195.toNat
def k0_dev132 (d0 : Dev nD) : Nat :=
  let c0_i32_3846 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3845 : BitVec 32 := 1#32
  let v4221 : BitVec 32 := Scalar.muli v13 c1_i32_3845
  let v4222 : BitVec 32 := Scalar.addi c0_i32_3846 v4221
  v4222.toNat
def k0_dev133 (d0 : Dev nD) : Nat :=
  let c0_i32_3872 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3871 : BitVec 32 := 1#32
  let v4245 : BitVec 32 := Scalar.muli v13 c1_i32_3871
  let v4246 : BitVec 32 := Scalar.addi c0_i32_3872 v4245
  v4246.toNat
def k0_dev134 (d0 : Dev nD) : Nat :=
  let c0_i32_3876 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3875 : BitVec 32 := 1#32
  let v4249 : BitVec 32 := Scalar.muli v24 c1_i32_3875
  let v4250 : BitVec 32 := Scalar.addi c0_i32_3876 v4249
  v4250.toNat
def k0_dev135 (d0 : Dev nD) : Nat :=
  let c0_i32_3915 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3914 : BitVec 32 := 1#32
  let v4290 : BitVec 32 := Scalar.muli v24 c1_i32_3914
  let v4291 : BitVec 32 := Scalar.addi c0_i32_3915 v4290
  v4291.toNat
def k0_dev136 (d0 : Dev nD) : Nat :=
  let c0_i32_3944 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3943 : BitVec 32 := 1#32
  let v4317 : BitVec 32 := Scalar.muli v13 c1_i32_3943
  let v4318 : BitVec 32 := Scalar.addi c0_i32_3944 v4317
  v4318.toNat
def k0_dev137 (d0 : Dev nD) : Nat :=
  let c0_i32_3970 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3969 : BitVec 32 := 1#32
  let v4341 : BitVec 32 := Scalar.muli v13 c1_i32_3969
  let v4342 : BitVec 32 := Scalar.addi c0_i32_3970 v4341
  v4342.toNat
def k0_dev138 (d0 : Dev nD) : Nat :=
  let c0_i32_3974 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3973 : BitVec 32 := 1#32
  let v4345 : BitVec 32 := Scalar.muli v24 c1_i32_3973
  let v4346 : BitVec 32 := Scalar.addi c0_i32_3974 v4345
  v4346.toNat
def k0_dev139 (d0 : Dev nD) : Nat :=
  let c0_i32_4013 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4012 : BitVec 32 := 1#32
  let v4386 : BitVec 32 := Scalar.muli v24 c1_i32_4012
  let v4387 : BitVec 32 := Scalar.addi c0_i32_4013 v4386
  v4387.toNat
def k0_dev140 (d0 : Dev nD) : Nat :=
  let c0_i32_4042 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4041 : BitVec 32 := 1#32
  let v4413 : BitVec 32 := Scalar.muli v13 c1_i32_4041
  let v4414 : BitVec 32 := Scalar.addi c0_i32_4042 v4413
  v4414.toNat
def k0_dev141 (d0 : Dev nD) : Nat :=
  let c0_i32_4068 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4067 : BitVec 32 := 1#32
  let v4437 : BitVec 32 := Scalar.muli v13 c1_i32_4067
  let v4438 : BitVec 32 := Scalar.addi c0_i32_4068 v4437
  v4438.toNat
def k0_dev142 (d0 : Dev nD) : Nat :=
  let c0_i32_4072 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4071 : BitVec 32 := 1#32
  let v4441 : BitVec 32 := Scalar.muli v24 c1_i32_4071
  let v4442 : BitVec 32 := Scalar.addi c0_i32_4072 v4441
  v4442.toNat
def k0_dev143 (d0 : Dev nD) : Nat :=
  let c0_i32_4111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4110 : BitVec 32 := 1#32
  let v4482 : BitVec 32 := Scalar.muli v24 c1_i32_4110
  let v4483 : BitVec 32 := Scalar.addi c0_i32_4111 v4482
  v4483.toNat
def k0_dev144 (d0 : Dev nD) : Nat :=
  let c0_i32_4140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4139 : BitVec 32 := 1#32
  let v4509 : BitVec 32 := Scalar.muli v13 c1_i32_4139
  let v4510 : BitVec 32 := Scalar.addi c0_i32_4140 v4509
  v4510.toNat
def k0_dev145 (d0 : Dev nD) : Nat :=
  let c0_i32_4166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4165 : BitVec 32 := 1#32
  let v4533 : BitVec 32 := Scalar.muli v13 c1_i32_4165
  let v4534 : BitVec 32 := Scalar.addi c0_i32_4166 v4533
  v4534.toNat
def k0_dev146 (d0 : Dev nD) : Nat :=
  let c0_i32_4170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4169 : BitVec 32 := 1#32
  let v4537 : BitVec 32 := Scalar.muli v24 c1_i32_4169
  let v4538 : BitVec 32 := Scalar.addi c0_i32_4170 v4537
  v4538.toNat
def k0_dev147 (d0 : Dev nD) : Nat :=
  let c0_i32_4209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4208 : BitVec 32 := 1#32
  let v4578 : BitVec 32 := Scalar.muli v24 c1_i32_4208
  let v4579 : BitVec 32 := Scalar.addi c0_i32_4209 v4578
  v4579.toNat
def k0_dev148 (d0 : Dev nD) : Nat :=
  let c0_i32_4238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4237 : BitVec 32 := 1#32
  let v4605 : BitVec 32 := Scalar.muli v13 c1_i32_4237
  let v4606 : BitVec 32 := Scalar.addi c0_i32_4238 v4605
  v4606.toNat
def k0_dev149 (d0 : Dev nD) : Nat :=
  let c0_i32_4264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4263 : BitVec 32 := 1#32
  let v4629 : BitVec 32 := Scalar.muli v13 c1_i32_4263
  let v4630 : BitVec 32 := Scalar.addi c0_i32_4264 v4629
  v4630.toNat
def k0_dev150 (d0 : Dev nD) : Nat :=
  let c0_i32_4268 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4267 : BitVec 32 := 1#32
  let v4633 : BitVec 32 := Scalar.muli v24 c1_i32_4267
  let v4634 : BitVec 32 := Scalar.addi c0_i32_4268 v4633
  v4634.toNat
def k0_dev151 (d0 : Dev nD) : Nat :=
  let c0_i32_4307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4306 : BitVec 32 := 1#32
  let v4674 : BitVec 32 := Scalar.muli v24 c1_i32_4306
  let v4675 : BitVec 32 := Scalar.addi c0_i32_4307 v4674
  v4675.toNat
def k0_dev152 (d0 : Dev nD) : Nat :=
  let c0_i32_4336 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4335 : BitVec 32 := 1#32
  let v4701 : BitVec 32 := Scalar.muli v13 c1_i32_4335
  let v4702 : BitVec 32 := Scalar.addi c0_i32_4336 v4701
  v4702.toNat
def k0_dev153 (d0 : Dev nD) : Nat :=
  let c0_i32_4362 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4361 : BitVec 32 := 1#32
  let v4725 : BitVec 32 := Scalar.muli v13 c1_i32_4361
  let v4726 : BitVec 32 := Scalar.addi c0_i32_4362 v4725
  v4726.toNat
def k0_dev154 (d0 : Dev nD) : Nat :=
  let c0_i32_4366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4365 : BitVec 32 := 1#32
  let v4729 : BitVec 32 := Scalar.muli v24 c1_i32_4365
  let v4730 : BitVec 32 := Scalar.addi c0_i32_4366 v4729
  v4730.toNat
def k0_dev155 (d0 : Dev nD) : Nat :=
  let c0_i32_4405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4404 : BitVec 32 := 1#32
  let v4770 : BitVec 32 := Scalar.muli v24 c1_i32_4404
  let v4771 : BitVec 32 := Scalar.addi c0_i32_4405 v4770
  v4771.toNat
def k0_dev156 (d0 : Dev nD) : Nat :=
  let c0_i32_4434 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4433 : BitVec 32 := 1#32
  let v4797 : BitVec 32 := Scalar.muli v13 c1_i32_4433
  let v4798 : BitVec 32 := Scalar.addi c0_i32_4434 v4797
  v4798.toNat
def k0_dev157 (d0 : Dev nD) : Nat :=
  let c0_i32_4460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4459 : BitVec 32 := 1#32
  let v4821 : BitVec 32 := Scalar.muli v13 c1_i32_4459
  let v4822 : BitVec 32 := Scalar.addi c0_i32_4460 v4821
  v4822.toNat
def k0_dev158 (d0 : Dev nD) : Nat :=
  let c0_i32_4464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4463 : BitVec 32 := 1#32
  let v4825 : BitVec 32 := Scalar.muli v24 c1_i32_4463
  let v4826 : BitVec 32 := Scalar.addi c0_i32_4464 v4825
  v4826.toNat
def k0_dev159 (d0 : Dev nD) : Nat :=
  let c0_i32_4503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4502 : BitVec 32 := 1#32
  let v4866 : BitVec 32 := Scalar.muli v24 c1_i32_4502
  let v4867 : BitVec 32 := Scalar.addi c0_i32_4503 v4866
  v4867.toNat
def k0_dev160 (d0 : Dev nD) : Nat :=
  let c0_i32_4532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4531 : BitVec 32 := 1#32
  let v4893 : BitVec 32 := Scalar.muli v13 c1_i32_4531
  let v4894 : BitVec 32 := Scalar.addi c0_i32_4532 v4893
  v4894.toNat
def k0_dev161 (d0 : Dev nD) : Nat :=
  let c0_i32_4558 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4557 : BitVec 32 := 1#32
  let v4917 : BitVec 32 := Scalar.muli v13 c1_i32_4557
  let v4918 : BitVec 32 := Scalar.addi c0_i32_4558 v4917
  v4918.toNat
def k0_dev162 (d0 : Dev nD) : Nat :=
  let c0_i32_4562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4561 : BitVec 32 := 1#32
  let v4921 : BitVec 32 := Scalar.muli v24 c1_i32_4561
  let v4922 : BitVec 32 := Scalar.addi c0_i32_4562 v4921
  v4922.toNat
def k0_dev163 (d0 : Dev nD) : Nat :=
  let c0_i32_4601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4600 : BitVec 32 := 1#32
  let v4962 : BitVec 32 := Scalar.muli v24 c1_i32_4600
  let v4963 : BitVec 32 := Scalar.addi c0_i32_4601 v4962
  v4963.toNat
def k0_dev164 (d0 : Dev nD) : Nat :=
  let c0_i32_4630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4629 : BitVec 32 := 1#32
  let v4989 : BitVec 32 := Scalar.muli v13 c1_i32_4629
  let v4990 : BitVec 32 := Scalar.addi c0_i32_4630 v4989
  v4990.toNat
def k0_dev165 (d0 : Dev nD) : Nat :=
  let c0_i32_4656 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4655 : BitVec 32 := 1#32
  let v5013 : BitVec 32 := Scalar.muli v13 c1_i32_4655
  let v5014 : BitVec 32 := Scalar.addi c0_i32_4656 v5013
  v5014.toNat
def k0_dev166 (d0 : Dev nD) : Nat :=
  let c0_i32_4660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4659 : BitVec 32 := 1#32
  let v5017 : BitVec 32 := Scalar.muli v24 c1_i32_4659
  let v5018 : BitVec 32 := Scalar.addi c0_i32_4660 v5017
  v5018.toNat
def k0_dev167 (d0 : Dev nD) : Nat :=
  let c0_i32_4699 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4698 : BitVec 32 := 1#32
  let v5058 : BitVec 32 := Scalar.muli v24 c1_i32_4698
  let v5059 : BitVec 32 := Scalar.addi c0_i32_4699 v5058
  v5059.toNat
def k0_dev168 (d0 : Dev nD) : Nat :=
  let c0_i32_4728 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4727 : BitVec 32 := 1#32
  let v5085 : BitVec 32 := Scalar.muli v13 c1_i32_4727
  let v5086 : BitVec 32 := Scalar.addi c0_i32_4728 v5085
  v5086.toNat
def k0_dev169 (d0 : Dev nD) : Nat :=
  let c0_i32_4754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4753 : BitVec 32 := 1#32
  let v5109 : BitVec 32 := Scalar.muli v13 c1_i32_4753
  let v5110 : BitVec 32 := Scalar.addi c0_i32_4754 v5109
  v5110.toNat
def k0_dev170 (d0 : Dev nD) : Nat :=
  let c0_i32_4758 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4757 : BitVec 32 := 1#32
  let v5113 : BitVec 32 := Scalar.muli v24 c1_i32_4757
  let v5114 : BitVec 32 := Scalar.addi c0_i32_4758 v5113
  v5114.toNat
def k0_dev171 (d0 : Dev nD) : Nat :=
  let c0_i32_4797 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4796 : BitVec 32 := 1#32
  let v5154 : BitVec 32 := Scalar.muli v24 c1_i32_4796
  let v5155 : BitVec 32 := Scalar.addi c0_i32_4797 v5154
  v5155.toNat
def k0_dev172 (d0 : Dev nD) : Nat :=
  let c0_i32_4826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4825 : BitVec 32 := 1#32
  let v5181 : BitVec 32 := Scalar.muli v13 c1_i32_4825
  let v5182 : BitVec 32 := Scalar.addi c0_i32_4826 v5181
  v5182.toNat
def k0_dev173 (d0 : Dev nD) : Nat :=
  let c0_i32_4852 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4851 : BitVec 32 := 1#32
  let v5205 : BitVec 32 := Scalar.muli v13 c1_i32_4851
  let v5206 : BitVec 32 := Scalar.addi c0_i32_4852 v5205
  v5206.toNat
def k0_dev174 (d0 : Dev nD) : Nat :=
  let c0_i32_4856 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4855 : BitVec 32 := 1#32
  let v5209 : BitVec 32 := Scalar.muli v24 c1_i32_4855
  let v5210 : BitVec 32 := Scalar.addi c0_i32_4856 v5209
  v5210.toNat
def k0_dev175 (d0 : Dev nD) : Nat :=
  let c0_i32_4895 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4894 : BitVec 32 := 1#32
  let v5250 : BitVec 32 := Scalar.muli v24 c1_i32_4894
  let v5251 : BitVec 32 := Scalar.addi c0_i32_4895 v5250
  v5251.toNat
def k0_dev176 (d0 : Dev nD) : Nat :=
  let c0_i32_4924 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4923 : BitVec 32 := 1#32
  let v5277 : BitVec 32 := Scalar.muli v13 c1_i32_4923
  let v5278 : BitVec 32 := Scalar.addi c0_i32_4924 v5277
  v5278.toNat
def k0_dev177 (d0 : Dev nD) : Nat :=
  let c0_i32_4950 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4949 : BitVec 32 := 1#32
  let v5301 : BitVec 32 := Scalar.muli v13 c1_i32_4949
  let v5302 : BitVec 32 := Scalar.addi c0_i32_4950 v5301
  v5302.toNat
def k0_dev178 (d0 : Dev nD) : Nat :=
  let c0_i32_4954 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4953 : BitVec 32 := 1#32
  let v5305 : BitVec 32 := Scalar.muli v24 c1_i32_4953
  let v5306 : BitVec 32 := Scalar.addi c0_i32_4954 v5305
  v5306.toNat
def k0_dev179 (d0 : Dev nD) : Nat :=
  let c0_i32_4993 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4992 : BitVec 32 := 1#32
  let v5346 : BitVec 32 := Scalar.muli v24 c1_i32_4992
  let v5347 : BitVec 32 := Scalar.addi c0_i32_4993 v5346
  v5347.toNat
def k0_dev180 (d0 : Dev nD) : Nat :=
  let c0_i32_5022 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5021 : BitVec 32 := 1#32
  let v5373 : BitVec 32 := Scalar.muli v13 c1_i32_5021
  let v5374 : BitVec 32 := Scalar.addi c0_i32_5022 v5373
  v5374.toNat
def k0_dev181 (d0 : Dev nD) : Nat :=
  let c0_i32_5048 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5047 : BitVec 32 := 1#32
  let v5397 : BitVec 32 := Scalar.muli v13 c1_i32_5047
  let v5398 : BitVec 32 := Scalar.addi c0_i32_5048 v5397
  v5398.toNat
def k0_dev182 (d0 : Dev nD) : Nat :=
  let c0_i32_5052 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5051 : BitVec 32 := 1#32
  let v5401 : BitVec 32 := Scalar.muli v24 c1_i32_5051
  let v5402 : BitVec 32 := Scalar.addi c0_i32_5052 v5401
  v5402.toNat
def k0_dev183 (d0 : Dev nD) : Nat :=
  let c0_i32_5091 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5090 : BitVec 32 := 1#32
  let v5442 : BitVec 32 := Scalar.muli v24 c1_i32_5090
  let v5443 : BitVec 32 := Scalar.addi c0_i32_5091 v5442
  v5443.toNat
def k0_dev184 (d0 : Dev nD) : Nat :=
  let c0_i32_5120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5119 : BitVec 32 := 1#32
  let v5469 : BitVec 32 := Scalar.muli v13 c1_i32_5119
  let v5470 : BitVec 32 := Scalar.addi c0_i32_5120 v5469
  v5470.toNat
def k0_dev185 (d0 : Dev nD) : Nat :=
  let c0_i32_5146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5145 : BitVec 32 := 1#32
  let v5493 : BitVec 32 := Scalar.muli v13 c1_i32_5145
  let v5494 : BitVec 32 := Scalar.addi c0_i32_5146 v5493
  v5494.toNat
def k0_dev186 (d0 : Dev nD) : Nat :=
  let c0_i32_5150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5149 : BitVec 32 := 1#32
  let v5497 : BitVec 32 := Scalar.muli v24 c1_i32_5149
  let v5498 : BitVec 32 := Scalar.addi c0_i32_5150 v5497
  v5498.toNat
def k0_dev187 (d0 : Dev nD) : Nat :=
  let c0_i32_5189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5188 : BitVec 32 := 1#32
  let v5538 : BitVec 32 := Scalar.muli v24 c1_i32_5188
  let v5539 : BitVec 32 := Scalar.addi c0_i32_5189 v5538
  v5539.toNat
def k0_dev188 (d0 : Dev nD) : Nat :=
  let c0_i32_5218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5217 : BitVec 32 := 1#32
  let v5565 : BitVec 32 := Scalar.muli v13 c1_i32_5217
  let v5566 : BitVec 32 := Scalar.addi c0_i32_5218 v5565
  v5566.toNat
def k0_dev189 (d0 : Dev nD) : Nat :=
  let c0_i32_5244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5243 : BitVec 32 := 1#32
  let v5589 : BitVec 32 := Scalar.muli v13 c1_i32_5243
  let v5590 : BitVec 32 := Scalar.addi c0_i32_5244 v5589
  v5590.toNat
def k0_dev190 (d0 : Dev nD) : Nat :=
  let c0_i32_5248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5247 : BitVec 32 := 1#32
  let v5593 : BitVec 32 := Scalar.muli v24 c1_i32_5247
  let v5594 : BitVec 32 := Scalar.addi c0_i32_5248 v5593
  v5594.toNat
def k0_dev191 (d0 : Dev nD) : Nat :=
  let c0_i32_5287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5286 : BitVec 32 := 1#32
  let v5634 : BitVec 32 := Scalar.muli v24 c1_i32_5286
  let v5635 : BitVec 32 := Scalar.addi c0_i32_5287 v5634
  v5635.toNat
def k0_dev192 (d0 : Dev nD) : Nat :=
  let c0_i32_5316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5315 : BitVec 32 := 1#32
  let v5661 : BitVec 32 := Scalar.muli v13 c1_i32_5315
  let v5662 : BitVec 32 := Scalar.addi c0_i32_5316 v5661
  v5662.toNat
def k0_dev193 (d0 : Dev nD) : Nat :=
  let c0_i32_5342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5341 : BitVec 32 := 1#32
  let v5685 : BitVec 32 := Scalar.muli v13 c1_i32_5341
  let v5686 : BitVec 32 := Scalar.addi c0_i32_5342 v5685
  v5686.toNat
def k0_dev194 (d0 : Dev nD) : Nat :=
  let c0_i32_5346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5345 : BitVec 32 := 1#32
  let v5689 : BitVec 32 := Scalar.muli v24 c1_i32_5345
  let v5690 : BitVec 32 := Scalar.addi c0_i32_5346 v5689
  v5690.toNat
def k0_dev195 (d0 : Dev nD) : Nat :=
  let c0_i32_5385 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5384 : BitVec 32 := 1#32
  let v5730 : BitVec 32 := Scalar.muli v24 c1_i32_5384
  let v5731 : BitVec 32 := Scalar.addi c0_i32_5385 v5730
  v5731.toNat
def k0_dev196 (d0 : Dev nD) : Nat :=
  let c0_i32_5414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5413 : BitVec 32 := 1#32
  let v5757 : BitVec 32 := Scalar.muli v13 c1_i32_5413
  let v5758 : BitVec 32 := Scalar.addi c0_i32_5414 v5757
  v5758.toNat
def k0_dev197 (d0 : Dev nD) : Nat :=
  let c0_i32_5440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5439 : BitVec 32 := 1#32
  let v5781 : BitVec 32 := Scalar.muli v13 c1_i32_5439
  let v5782 : BitVec 32 := Scalar.addi c0_i32_5440 v5781
  v5782.toNat
def k0_dev198 (d0 : Dev nD) : Nat :=
  let c0_i32_5444 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5443 : BitVec 32 := 1#32
  let v5785 : BitVec 32 := Scalar.muli v24 c1_i32_5443
  let v5786 : BitVec 32 := Scalar.addi c0_i32_5444 v5785
  v5786.toNat
def k0_dev199 (d0 : Dev nD) : Nat :=
  let c0_i32_5483 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5482 : BitVec 32 := 1#32
  let v5826 : BitVec 32 := Scalar.muli v24 c1_i32_5482
  let v5827 : BitVec 32 := Scalar.addi c0_i32_5483 v5826
  v5827.toNat
def k0_dev200 (d0 : Dev nD) : Nat :=
  let c0_i32_5512 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5511 : BitVec 32 := 1#32
  let v5853 : BitVec 32 := Scalar.muli v13 c1_i32_5511
  let v5854 : BitVec 32 := Scalar.addi c0_i32_5512 v5853
  v5854.toNat
def k0_dev201 (d0 : Dev nD) : Nat :=
  let c0_i32_5538 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5537 : BitVec 32 := 1#32
  let v5877 : BitVec 32 := Scalar.muli v13 c1_i32_5537
  let v5878 : BitVec 32 := Scalar.addi c0_i32_5538 v5877
  v5878.toNat
def k0_dev202 (d0 : Dev nD) : Nat :=
  let c0_i32_5542 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5541 : BitVec 32 := 1#32
  let v5881 : BitVec 32 := Scalar.muli v24 c1_i32_5541
  let v5882 : BitVec 32 := Scalar.addi c0_i32_5542 v5881
  v5882.toNat
def k0_dev203 (d0 : Dev nD) : Nat :=
  let c0_i32_5581 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5580 : BitVec 32 := 1#32
  let v5922 : BitVec 32 := Scalar.muli v24 c1_i32_5580
  let v5923 : BitVec 32 := Scalar.addi c0_i32_5581 v5922
  v5923.toNat
def k0_dev204 (d0 : Dev nD) : Nat :=
  let c0_i32_5610 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5609 : BitVec 32 := 1#32
  let v5949 : BitVec 32 := Scalar.muli v13 c1_i32_5609
  let v5950 : BitVec 32 := Scalar.addi c0_i32_5610 v5949
  v5950.toNat
def k0_dev205 (d0 : Dev nD) : Nat :=
  let c0_i32_5671 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5670 : BitVec 32 := 1#32
  let v6010 : BitVec 32 := Scalar.muli v24 c1_i32_5670
  let v6011 : BitVec 32 := Scalar.addi c0_i32_5671 v6010
  v6011.toNat
def k0_dev206 (d0 : Dev nD) : Nat :=
  let c0_i32_5700 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5699 : BitVec 32 := 1#32
  let v6037 : BitVec 32 := Scalar.muli v13 c1_i32_5699
  let v6038 : BitVec 32 := Scalar.addi c0_i32_5700 v6037
  v6038.toNat
def k0_dev207 (d0 : Dev nD) : Nat :=
  let c0_i32_5761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5760 : BitVec 32 := 1#32
  let v6098 : BitVec 32 := Scalar.muli v24 c1_i32_5760
  let v6099 : BitVec 32 := Scalar.addi c0_i32_5761 v6098
  v6099.toNat
def k0_dev208 (d0 : Dev nD) : Nat :=
  let c0_i32_5790 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5789 : BitVec 32 := 1#32
  let v6125 : BitVec 32 := Scalar.muli v13 c1_i32_5789
  let v6126 : BitVec 32 := Scalar.addi c0_i32_5790 v6125
  v6126.toNat
def k0_dev209 (d0 : Dev nD) : Nat :=
  let c0_i32_5851 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5850 : BitVec 32 := 1#32
  let v6186 : BitVec 32 := Scalar.muli v24 c1_i32_5850
  let v6187 : BitVec 32 := Scalar.addi c0_i32_5851 v6186
  v6187.toNat
def k0_dev210 (d0 : Dev nD) : Nat :=
  let c0_i32_5880 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5879 : BitVec 32 := 1#32
  let v6213 : BitVec 32 := Scalar.muli v13 c1_i32_5879
  let v6214 : BitVec 32 := Scalar.addi c0_i32_5880 v6213
  v6214.toNat
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Steps.lean ====
/- The kernel's body in a regular form: one text for each kind of step the body repeats, at a symbolic
   step number, and the theorem that the printed body is these steps in a row. -/
module

public import proofs.«01_k».proof.Proof.Gen.KernelIdeal.Skeleton
public import Idealize.ShloMosaic.Lib.Pipeline.Regions

@[expose] public section

noncomputable section

namespace Cert.KernelIdeal.Ring

open Idealize.ShloMosaic Idealize.SL.Sem Cert.KernelIdeal.Gen

variable {F : FTy → Type} [FloatOps F]

/-- A program of one TensorCore of this kernel. -/
abbrev Code (F : FTy → Type) : Type _ := Prog (TpuEff nD τ sig (Elt F) Λ₀ .tc) PUnit

/-! ## Slots and offsets -/

/-- Where slot `k` of a ring buffer starts. -/
def slotOff (k : ℕ) : Fin 3 → ℕ := ![k, 0, 0]

theorem slot_inb (k : Fin 8) : ∀ a, slotOff k a + S1x128x1024.size a ≤ S8x128x1024.size a := by
  revert k; decide

theorem slot_packed : ∀ k : Fin 8, (Rect.unit (s := S8x128x1024) (slotOff k) S1x128x1024.size (slot_inb k)).PackedRows (EltTy.packing .bf16) := by
  decide

theorem slot_words : ∀ k : Fin 8, (Rect.unit (s := S8x128x1024) (slotOff k) S1x128x1024.size (slot_inb k)).WholeWords (EltTy.packing .bf16) := by
  decide

theorem seed_inb (k : Fin 2) : ∀ a, slotOff k a + S1x128x1024.size a ≤ S2x128x1024.size a := by
  revert k; decide

theorem seed_packed : ∀ k : Fin 2, (Rect.unit (s := S2x128x1024) (slotOff k) S1x128x1024.size (seed_inb k)).PackedRows (EltTy.packing .bf16) := by
  decide

theorem seed_words : ∀ k : Fin 2, (Rect.unit (s := S2x128x1024) (slotOff k) S1x128x1024.size (seed_inb k)).WholeWords (EltTy.packing .bf16) := by
  decide

theorem sem30_inb (t : Fin 30) : ∀ a, (![t.val] : Fin 1 → ℕ) a + S1.size a ≤ S30.size a := by
  revert t; decide

theorem sem8_inb (k : Fin 8) : ∀ a, (![k.val] : Fin 1 → ℕ) a + S1.size a ≤ S8.size a := by
  revert k; decide

/-- The slot a step uses: its number modulo eight. -/
def slotOf (t : Fin 30) : Fin 8 := ⟨t.val % 8, Nat.mod_lt _ (by decide)⟩

/-- The half of its chunk a step handles. -/
def halfOf (t : Fin 30) : Fin 2 := ⟨t.val % 2, Nat.mod_lt _ (by decide)⟩

/-- The ring step (of fifteen) a step belongs to. -/
def ringOf (t : Fin 30) : Fin 15 := ⟨t.val / 2, by omega⟩

/-- The neighbour a side sends to: the right one for the clockwise side (`true`), the left one for the other. -/
def nbr : Bool → Dev nD → Dev nD
  | true, d => ⟨k0_dev2 d, k0_dev2_lt d⟩
  | false, d => ⟨k0_dev1 d, k0_dev1_lt d⟩

/-- The rows and columns of the result the first sends read. -/
def seedOff : Bool → Dev nD → Fin 2 → Fin 2 → ℕ
  | true, d, j => k0_off3 d (BitVec.ofNat 32 (128 * j.val))
  | false, d, j => k0_off4 d (BitVec.ofNat 32 (128 * j.val))

/-- The rows and columns of the result a reduce-scatter step reads. -/
def rsOff : Bool → Dev nD → Fin 15 → Fin 2 → Fin 2 → ℕ
  | true, d, s, j => k0_off7 d (BitVec.ofNat 32 s.val) (BitVec.ofNat 32 (128 * j.val))
  | false, d, s, j => k0_off8 d (BitVec.ofNat 32 s.val) (BitVec.ofNat 32 (128 * j.val))

/-- The rows and columns of the result an all-gather step writes. -/
def agOff : Bool → Dev nD → Fin 15 → Fin 2 → Fin 2 → ℕ
  | true, d, s, j => k0_off9 d (BitVec.ofNat 32 s.val) (BitVec.ofNat 32 (128 * j.val))
  | false, d, s, j => k0_off10 d (BitVec.ofNat 32 s.val) (BitVec.ofNat 32 (128 * j.val))

theorem seedOff_inb (b : Bool) (d : Dev nD) (j : Fin 2) : ∀ a, seedOff b d j a + S128x1024.size a ≤ S4096x2048.size a := by
  cases b
  · exact k0_off4_inb d j
  · exact k0_off3_inb d j

theorem rsOff_inb (b : Bool) (d : Dev nD) (s : Fin 15) (j : Fin 2) : ∀ a, rsOff b d s j a + S128x1024.size a ≤ S4096x2048.size a := by
  cases b
  · exact k0_off8_inb d s j
  · exact k0_off7_inb d s j

theorem agOff_inb (b : Bool) (d : Dev nD) (s : Fin 15) (j : Fin 2) : ∀ a, agOff b d s j a + S128x1024.size a ≤ S4096x2048.size a := by
  cases b
  · exact k0_off10_inb d s j
  · exact k0_off9_inb d s j

/-- Where chunk product number `i` reads the rows of `x`. -/
def xOff : Dev nD → Fin 16 → Fin 2 → ℕ
  | d, ⟨0, _⟩ => k0_off1 d
  | d, ⟨i + 1, h⟩ => k0_off5 d (k0_off5_at ⟨i, Nat.lt_of_succ_lt_succ h⟩)

/-- Where chunk product number `i` is stored. -/
def yOff : Dev nD → Fin 16 → Fin 2 → ℕ
  | d, ⟨0, _⟩ => k0_off2 d
  | d, ⟨i + 1, h⟩ => k0_off6 d (k0_off5_at ⟨i, Nat.lt_of_succ_lt_succ h⟩)

theorem xOff_inb : ∀ (d : Dev nD) (i : Fin 16), ∀ a, xOff d i a + S256x256.size a ≤ S4096x256.size a
  | d, ⟨0, _⟩ => k0_off1_inb d
  | d, ⟨i + 1, h⟩ => k0_off5_inb d ⟨i, Nat.lt_of_succ_lt_succ h⟩

theorem yOff_inb : ∀ (d : Dev nD) (i : Fin 16), ∀ a, yOff d i a + S256x2048.size a ≤ S4096x2048.size a
  | d, ⟨0, _⟩ => k0_off2_inb d
  | d, ⟨i + 1, h⟩ => k0_off6_inb d ⟨i, Nat.lt_of_succ_lt_succ h⟩

/-- One slot of a ring buffer, as the two-axis block a copy moves. -/
abbrev slot (m : Memref sig .tc .vmem S8x128x1024 .bf16) (k : Fin 8) : Memref sig .tc .vmem S128x1024 .bf16 :=
  (m.slice (Rect.unit (s := S8x128x1024) (slotOff k) S1x128x1024.size (slot_inb k)) (fun _ => rfl)).squeeze S128x1024 squeezes_S1x128x1024_S128x1024

/-- One slot of a seed buffer. -/
abbrev seed (m : Memref sig .tc .vmem S2x128x1024 .bf16) (k : Fin 2) : Memref sig .tc .vmem S128x1024 .bf16 :=
  (m.slice (Rect.unit (s := S2x128x1024) (slotOff k) S1x128x1024.size (seed_inb k)) (fun _ => rfl)).squeeze S128x1024 squeezes_S1x128x1024_S128x1024

/-- The semaphore of step `t` in an array of thirty. -/
abbrev sem30 (a : DmaSems sig S30) (t : Fin 30) : DmaSem sig :=
  ((a.slice (Rect.unit (s := S30) ![t.val] S1.size (sem30_inb t))).squeeze S_ squeezes_S1_S_).sem

/-- The credit semaphore of slot `k`. -/
abbrev sem8 (a : Sems sig S8) (k : Fin 8) : Sem sig :=
  ((a.slice (Rect.unit (s := S8) ![k.val] S1.size (sem8_inb k))).squeeze S_ squeezes_S1_S_).sem

/-- The barrier semaphore. -/
abbrev barSem : Sem sig := (SemArray.scalar (sig.barrier 0 rfl) : Sems sig S_).sem

/-! ## What a step computes -/

/-- The partial result a device sends on: its own block plus the block received, narrowed. -/
def accNarrow (v : Vec F S128x1024 .f32) (w : Vec F S1x128x1024 .bf16) : FVec F S1x128x1024 .bf16 := k0_pay100 v w

/-- The finished block: the sum passed through the activation. -/
def accAct (v : Vec F S128x1024 .f32) (w : Vec F S1x128x1024 .bf16) : FVec F S128x1024 .f32 := k0_pay101 v w

/-- A finished block, narrowed for the all-gather. -/
def narrow (v : FVec F S128x1024 .f32) : FVec F S1x128x1024 .bf16 := k0_pay102 v

/-- A gathered block, widened. -/
def widen (w : Vec F S1x128x1024 .bf16) : FVec F S128x1024 .f32 := k0_pay111 (k0_pay110 w)

/-! ## The steps -/

/-- What one side of the reduce-scatter works on. -/
structure Rs where
  land : Memref sig .tc .vmem S8x128x1024 .bf16
  hland : land.IsWhole
  stage : Memref sig .tc .vmem S8x128x1024 .bf16
  hstage : stage.IsWhole
  send : DmaSems sig S30
  recv : DmaSems sig S30
  credit : Sems sig S8

/-- What one side of the all-gather works on. -/
structure Ag where
  land : Memref sig .tc .vmem S8x128x1024 .bf16
  hland : land.IsWhole
  seed : Memref sig .tc .vmem S2x128x1024 .bf16
  hseed : seed.IsWhole
  send : DmaSems sig S30
  recv : DmaSems sig S30
  credit : Sems sig S8

abbrev slotRect (k : Fin 8) : Rect S8x128x1024 := Rect.unit (s := S8x128x1024) (slotOff k) S1x128x1024.size (slot_inb k)

abbrev seedRect (k : Fin 2) : Rect S2x128x1024 := Rect.unit (s := S2x128x1024) (slotOff k) S1x128x1024.size (seed_inb k)

/-- A block of the result, 128 rows of 1024 columns. -/
abbrev outRect (off : Fin 2 → ℕ) (h : ∀ a, off a + S128x1024.size a ≤ S4096x2048.size a) : Rect S4096x2048 :=
  Rect.unit (s := S4096x2048) off S128x1024.size h

/-- Wait until the send of step `t` has left the staging slot. -/
def waitSend (r : Rs) (t : Fin 30) (k : Code F) : Code F :=
  .op (.waitDma2 (sem30 r.send t) (slot r.land (slotOf t)) (slot r.stage (slotOf t)) ((r.hland.wordExact_slice rfl _ (slot_words _)).reshape _ _) ((r.hstage.wordExact_slice rfl _ (slot_words _)).reshape _ _)) fun _ => k

/-- Wait for the block of step `t` to land. -/
def waitRecv (r : Rs) (t : Fin 30) (k : Code F) : Code F :=
  .op (.waitDma2 (sem30 r.recv t) (slot r.stage (slotOf t)) (slot r.land (slotOf t)) ((r.hstage.wordExact_slice rfl _ (slot_words _)).reshape _ _) ((r.hland.wordExact_slice rfl _ (slot_words _)).reshape _ _)) fun _ => k

/-- Read a block of the result. -/
def loadOut (out : Memref sig .tc .vmem S4096x2048 .f32) (off : Fin 2 → ℕ) (h : ∀ a, off a + S128x1024.size a ≤ S4096x2048.size a)
    (k : Vec F S128x1024 .f32 → Code F) : Code F :=
  .op (.load out (outRect off h).toLoadRect (View.loadsAt_vmem h_S128x1024)) k

/-- Store a block of the result (the kernel reads the block first and drops what it read). -/
def storeOut (out : Memref sig .tc .vmem S4096x2048 .f32) (off : Fin 2 → ℕ) (h : ∀ a, off a + S128x1024.size a ≤ S4096x2048.size a)
    (v : FVec F S128x1024 .f32) (k : Code F) : Code F :=
  .op (.load out (outRect off h).toLoadRect (View.loadsAt_vmem h_S128x1024)) fun _ =>
  .op (.store out (outRect off h) v Finset.univ (View.stores_vmem_bits_univ h_S128x1024 rfl) (.inl rfl)) fun _ => k

/-- Read a slot. -/
def loadSlot (m : Memref sig .tc .vmem S8x128x1024 .bf16) (i : Fin 8) (k : Vec F S1x128x1024 .bf16 → Code F) : Code F :=
  .op (.load m (slotRect i).toLoadRect (View.loadsAt_vmem h_S1x128x1024)) k

/-- Store a slot (reading it first). -/
def storeSlot (m : Memref sig .tc .vmem S8x128x1024 .bf16) (hm : m.IsWhole) (i : Fin 8) (v : FVec F S1x128x1024 .bf16) (k : Code F) : Code F :=
  .op (.load m (slotRect i).toLoadRect (View.loadsAt_vmem h_S1x128x1024)) fun _ =>
  .op (.store m (slotRect i) v Finset.univ (View.stores_vmem h_S1x128x1024 (hm.storeExact_slice rfl _ (slot_packed _)) (fun _ => rfl)) (.inl rfl)) fun _ => k

/-- Store a slot of a seed buffer (reading it first). -/
def storeSeed (m : Memref sig .tc .vmem S2x128x1024 .bf16) (hm : m.IsWhole) (i : Fin 2) (v : FVec F S1x128x1024 .bf16) (k : Code F) : Code F :=
  .op (.load m (seedRect i).toLoadRect (View.loadsAt_vmem h_S1x128x1024)) fun _ =>
  .op (.store m (seedRect i) v Finset.univ (View.stores_vmem h_S1x128x1024 (hm.storeExact_slice rfl _ (seed_packed _)) (fun _ => rfl)) (.inl rfl)) fun _ => k

/-- Start the copy of step `t`: staging slot to the neighbour's landing slot. -/
def sendRs (r : Rs) (b : Bool) (d : Dev nD) (t : Fin 30) (k : Code F) : Code F :=
  .op (.enqueueDma (slot r.stage (slotOf t)) (.remote (Dev.tc (nbr b d)) (slot r.land (slotOf t)) (.dma (sem30 r.send t))) (.dma (sem30 r.recv t))
    ((r.hstage.wordExact_slice rfl _ (slot_words _)).reshape _ _) ((r.hland.wordExact_slice rfl _ (slot_words _)).reshape _ _) ⟨⟨rfl, Or.inl rfl⟩, trivial⟩) fun _ => k

/-- Start the first copies of the all-gather: seed slot to the neighbour's landing slot. -/
def sendSeed (r : Ag) (b : Bool) (d : Dev nD) (t : Fin 30) (k : Code F) : Code F :=
  .op (.enqueueDma (seed r.seed (halfOf t)) (.remote (Dev.tc (nbr b d)) (slot r.land (slotOf t)) (.dma (sem30 r.send t))) (.dma (sem30 r.recv t))
    ((r.hseed.wordExact_slice rfl _ (seed_words _)).reshape _ _) ((r.hland.wordExact_slice rfl _ (slot_words _)).reshape _ _) ⟨⟨rfl, Or.inl rfl⟩, trivial⟩) fun _ => k

/-- Forward a gathered block: landing slot of step `u` to the neighbour's landing slot of step `t`. -/
def sendFwd (r : Ag) (b : Bool) (d : Dev nD) (u t : Fin 30) (k : Code F) : Code F :=
  .op (.enqueueDma (slot r.land (slotOf u)) (.remote (Dev.tc (nbr b d)) (slot r.land (slotOf t)) (.dma (sem30 r.send t))) (.dma (sem30 r.recv t))
    ((r.hland.wordExact_slice rfl _ (slot_words _)).reshape _ _) ((r.hland.wordExact_slice rfl _ (slot_words _)).reshape _ _) ⟨⟨rfl, Or.inl rfl⟩, trivial⟩) fun _ => k

/-- Wait for a credit: the neighbour's landing slot `i` is free again. -/
def waitCredit (a : Sems sig S8) (i : Fin 8) (k : Code F) : Code F :=
  .op (.semWait (sem8 a i) (1#32 : BitVec 32).toInt) fun _ => k

/-- Give a credit to the neighbour that fills our landing slot `i`. -/
def giveCredit (a : Sems sig S8) (dst : Dev nD) (i : Fin 8) (k : Code F) : Code F :=
  .op (.semSignal (Dev.tc dst) (sem8 a i) (1#32 : BitVec 32).toInt) fun _ => k

/-- Wait for a credit where step `t` reuses a slot: from the ninth step on. -/
def waitCreditFrom (a : Sems sig S8) (t : Fin 30) (k : Code F) : Code F :=
  if 8 ≤ t.val then waitCredit a (slotOf t) k else k

/-- One side of step `t` of the reduce-scatter. -/
def rsSide (r : Rs) (g : Ag) (b : Bool) (out : Memref sig .tc .vmem S4096x2048 .f32) (d : Dev nD) (t : Fin 30) (k : Code F) : Code F :=
  waitRecv r t <|
  loadOut out (rsOff b d (ringOf t) (halfOf t)) (rsOff_inb b d _ _) fun v =>
  loadSlot r.land (slotOf t) fun w =>
  if h : t.val + 2 < 30 then
    storeSlot r.stage r.hstage (slotOf ⟨t.val + 2, h⟩) (accNarrow v w) <|
    waitCreditFrom r.credit ⟨t.val + 2, h⟩ <|
    sendRs r b d ⟨t.val + 2, h⟩ k
  else
    storeOut out (rsOff b d (ringOf t) (halfOf t)) (rsOff_inb b d _ _) (accAct v w) <|
    storeSeed g.seed g.hseed (halfOf t) (narrow (accAct v w)) <|
    sendSeed g b d ⟨t.val - 28, by omega⟩ k

/-- Step `t` of the reduce-scatter. -/
def rsStep (r r' : Rs) (g g' : Ag) (out : Memref sig .tc .vmem S4096x2048 .f32) (d : Dev nD) (t : Fin 30) (k : Code F) : Code F :=
  let rest : Code F :=
    rsSide r g true out d t <| rsSide r' g' false out d t <|
    if t.val < 22 then giveCredit r.credit (nbr false d) (slotOf t) <| giveCredit r'.credit (nbr true d) (slotOf t) k else k
  if h : 6 ≤ t.val then waitSend r ⟨t.val - 6, by omega⟩ <| waitSend r' ⟨t.val - 6, by omega⟩ rest else rest

/-- Wait for the gathered block of step `t` to land. -/
def waitRecvAg (r : Ag) (t : Fin 30) (k : Code F) : Code F :=
  if h : 2 ≤ t.val then
    .op (.waitDma2 (sem30 r.recv t) (slot r.land (slotOf ⟨t.val - 2, by omega⟩)) (slot r.land (slotOf t)) ((r.hland.wordExact_slice rfl _ (slot_words _)).reshape _ _) ((r.hland.wordExact_slice rfl _ (slot_words _)).reshape _ _)) fun _ => k
  else
    .op (.waitDma2 (sem30 r.recv t) (seed r.seed (halfOf t)) (slot r.land (slotOf t)) ((r.hseed.wordExact_slice rfl _ (seed_words _)).reshape _ _) ((r.hland.wordExact_slice rfl _ (slot_words _)).reshape _ _)) fun _ => k

/-- Wait until the all-gather send of step `t` has left its source. -/
def waitSendAg (r : Ag) (t : Fin 30) (k : Code F) : Code F :=
  if h : 2 ≤ t.val then
    .op (.waitDma2 (sem30 r.send t) (slot r.land (slotOf t)) (slot r.land (slotOf ⟨t.val - 2, by omega⟩)) ((r.hland.wordExact_slice rfl _ (slot_words _)).reshape _ _) ((r.hland.wordExact_slice rfl _ (slot_words _)).reshape _ _)) fun _ => k
  else
    .op (.waitDma2 (sem30 r.send t) (slot r.land (slotOf t)) (seed r.seed (halfOf t)) ((r.hland.wordExact_slice rfl _ (slot_words _)).reshape _ _) ((r.hseed.wordExact_slice rfl _ (seed_words _)).reshape _ _)) fun _ => k

/-- One side of step `t` of the all-gather. -/
def agSide (r : Ag) (b : Bool) (out : Memref sig .tc .vmem S4096x2048 .f32) (d : Dev nD) (t : Fin 30) (k : Code F) : Code F :=
  waitRecvAg r t <|
  loadSlot r.land (slotOf t) fun w =>
  storeOut out (agOff b d (ringOf t) (halfOf t)) (agOff_inb b d _ _) (widen w) <|
  if h : t.val + 2 < 30 then
    waitCreditFrom r.credit ⟨t.val + 2, h⟩ <|
    sendFwd r b d t ⟨t.val + 2, h⟩ k
  else k

/-- Step `t` of the all-gather. -/
def agStep (r r' : Ag) (out : Memref sig .tc .vmem S4096x2048 .f32) (d : Dev nD) (t : Fin 30) (k : Code F) : Code F :=
  agSide r true out d t <| agSide r' false out d t <| waitSendAg r t <| waitSendAg r' t <|
  if h : 2 ≤ t.val ∧ t.val < 24 then
    giveCredit r.credit (nbr false d) (slotOf ⟨t.val - 2, by omega⟩) <| giveCredit r'.credit (nbr true d) (slotOf ⟨t.val - 2, by omega⟩) k
  else k

/-- One chunk of the product `x · w`. -/
def gemmStep (x : Memref sig .tc .vmem S4096x256 .f32) (w : Memref sig .tc .vmem S256x2048 .f32) (out : Memref sig .tc .vmem S4096x2048 .f32)
    (d : Dev nD) (i : Fin 16) (k : Code F) : Code F :=
  .op (.load x (Rect.unit (s := S4096x256) (xOff d i) S256x256.size (xOff_inb d i)).toLoadRect (View.loadsAt_vmem h_S256x256)) fun u =>
  .op (.load w (Rect.unit (s := S256x2048) ![0, 0] S256x2048.size inb_S256x2048_S256x2048_0_0).toLoadRect (View.loadsAt_vmem h_S256x2048)) fun v =>
  .op (.load out (Rect.unit (s := S4096x2048) (yOff d i) S256x2048.size (yOff_inb d i)).toLoadRect (View.loadsAt_vmem h_S256x2048)) fun _ =>
  .op (.store out (Rect.unit (s := S4096x2048) (yOff d i) S256x2048.size (yOff_inb d i)) (k0_pay1 u v) Finset.univ (View.stores_vmem_bits_univ h_S256x2048 rfl) (.inl rfl)) fun _ => k

/-- One side of the first sends of the reduce-scatter. -/
def firstSide (r : Rs) (b : Bool) (out : Memref sig .tc .vmem S4096x2048 .f32) (d : Dev nD) (j : Fin 2) (k : Code F) : Code F :=
  loadOut out (seedOff b d j) (seedOff_inb b d j) fun v =>
  storeSlot r.stage r.hstage (slotOf ⟨j.val, by omega⟩) (k0_pay2 v) <|
  sendRs r b d ⟨j.val, by omega⟩ k

/-- The first sends, both sides. -/
def firstStep (r r' : Rs) (out : Memref sig .tc .vmem S4096x2048 .f32) (d : Dev nD) (j : Fin 2) (k : Code F) : Code F :=
  firstSide r true out d j <| firstSide r' false out d j k

/-- The last waits: the sends of the reduce-scatter nothing waited for yet. -/
def lastStep (r r' : Rs) (t : Fin 30) (k : Code F) : Code F := waitSend r t <| waitSend r' t k

/-- The last `m` of `n + 1` steps in a row, then `k`. -/
def countdown {n : ℕ} (f : Fin (n + 1) → Code F → Code F) (k : Code F) : ℕ → Code F
  | 0 => k
  | m + 1 => f ⟨n - m, Nat.lt_succ_of_le (Nat.sub_le n m)⟩ (countdown f k m)

/-- The handshake with both neighbours. -/
def handshake (d : Dev nD) (k : Code F) : Code F :=
  .op (.semSignal (Dev.tc (nbr false d)) barSem (1#32 : BitVec 32).toInt) fun _ =>
  .op (.semSignal (Dev.tc (nbr true d)) barSem (1#32 : BitVec 32).toInt) fun _ =>
  .op (.semWait barSem (2#32 : BitVec 32).toInt) fun _ => k

/-- The whole body on device `d`. -/
def bodyOn (x : Memref sig .tc .vmem S4096x256 .f32) (w : Memref sig .tc .vmem S256x2048 .f32) (out : Memref sig .tc .vmem S4096x2048 .f32)
    (r r' : Rs) (g g' : Ag) (d : Dev nD) : Code F :=
  handshake d <|
  gemmStep x w out d 0 <|
  countdown (firstStep r r' out d)
    (countdown (gemmStep x w out d)
      (countdown (rsStep r r' g g' out d)
        (countdown (agStep g g' out d)
          (countdown (lastStep r r') (.ret ⟨⟩) 6) 30) 30) 15) 2

end Cert.KernelIdeal.Ring
-- ==== Proof.Proto.lean ====
/- The protocol of the ring: its semaphore cells, who signals and who waits on each, how much, and what every
   signal or landing hands over.

   There are four channels: two phases (the reduce-scatter, then the all-gather) in two directions. On a
   channel every device sends to one neighbour and receives from the other. Per channel and device:
   - thirty send semaphores, one for each copy: the copy has left its source, which is the sender's again;
   - thirty receive semaphores, one for each copy: the block has landed;
   - eight credit semaphores, one for each landing slot of the neighbour: the slot may be written again.
   One barrier semaphore per device: both neighbours give their landing slots before the first copy. -/
module

public import proofs.«01_k».proof.Proof.Steps
public import proofs.«01_k».proof.Proof.Gen.KernelIdeal
public import Idealize.ShloMosaic.Lib.Pipeline.TalkSites
public import Idealize.ShloMosaic.Lib.Pipeline.Kit
public import Idealize.ShloMosaic.Lib.Pipeline.Launch
public import Idealize.ShloMosaic.Lib.Pipeline.ValueKit.Tiles
public import Idealize.ShloMosaic.Lib.Tactic

@[expose] public section

noncomputable section

namespace Cert.KernelIdeal.Ring

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the pipeline's rounds and the ring's rounds (duties named by `Bool`) -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## The devices around the ring -/

theorem nbr_nbr (b : Bool) (c : Dev nD) : nbr (!b) (nbr b c) = c := by
  revert b c; decide

theorem nbr_nbr' (b : Bool) (c : Dev nD) : nbr b (nbr (!b) c) = c := by
  revert b c; decide

/-- The neighbour map is a bijection of the devices. -/
def turn (b : Bool) : Dev nD ≃ Dev nD := ⟨nbr b, nbr (!b), nbr_nbr b, nbr_nbr' b⟩

/-! ## The channels' buffers and semaphores -/

/-- A channel: whether it is the all-gather's (`true`) and its direction (`true`: clockwise). -/
abbrev Chan : Type := Bool × Bool

def landM : Chan → Memref sig .tc .vmem S8x128x1024 .bf16
  | (false, true) => Memref.whole cc0_scratch0
  | (false, false) => Memref.whole cc0_scratch1
  | (true, true) => Memref.whole cc0_scratch4
  | (true, false) => Memref.whole cc0_scratch5

theorem landM_whole : ∀ x, (landM x).IsWhole
  | (false, true) => Memref.isWhole_whole _
  | (false, false) => Memref.isWhole_whole _
  | (true, true) => Memref.isWhole_whole _
  | (true, false) => Memref.isWhole_whole _

def stageM : Bool → Memref sig .tc .vmem S8x128x1024 .bf16
  | true => Memref.whole cc0_scratch2
  | false => Memref.whole cc0_scratch3

theorem stageM_whole : ∀ b, (stageM b).IsWhole
  | true => Memref.isWhole_whole _
  | false => Memref.isWhole_whole _

def seedM : Bool → Memref sig .tc .vmem S2x128x1024 .bf16
  | true => Memref.whole cc0_scratch6
  | false => Memref.whole cc0_scratch7

theorem seedM_whole : ∀ b, (seedM b).IsWhole
  | true => Memref.isWhole_whole _
  | false => Memref.isWhole_whole _

def sendA : Chan → DmaSems sig S30
  | (false, true) => cc0_scratch8
  | (false, false) => cc0_scratch11
  | (true, true) => cc0_scratch14
  | (true, false) => cc0_scratch17

def recvA : Chan → DmaSems sig S30
  | (false, true) => cc0_scratch9
  | (false, false) => cc0_scratch12
  | (true, true) => cc0_scratch15
  | (true, false) => cc0_scratch18

def creditA : Chan → Sems sig S8
  | (false, true) => cc0_scratch10
  | (false, false) => cc0_scratch13
  | (true, true) => cc0_scratch16
  | (true, false) => cc0_scratch19

/-- One side of the reduce-scatter, of the all-gather. -/
def rsOf (b : Bool) : Rs :=
  ⟨landM (false, b), landM_whole _, stageM b, stageM_whole b, sendA (false, b), recvA (false, b), creditA (false, b)⟩

def agOf (b : Bool) : Ag :=
  ⟨landM (true, b), landM_whole _, seedM b, seedM_whole b, sendA (true, b), recvA (true, b), creditA (true, b)⟩

/-! ## The cells -/

/-- A channel's semaphores: sends, receives, credits. -/
abbrev OwnKind : Type := Chan × (Fin 30 ⊕ Fin 30 ⊕ Fin 8)

/-- A device's semaphores: the barrier (`none`) and the channels'. -/
abbrev Kind : Type := Option OwnKind

@[reducible] def ownSem : OwnKind → SemLoc sig
  | (x, .inl t) => .dma (sem30 (sendA x) t)
  | (x, .inr (.inl t)) => .dma (sem30 (recvA x) t)
  | (x, .inr (.inr k)) => .reg (sem8 (creditA x) k)

@[reducible] def semOf : Kind → SemLoc sig
  | none => .reg barSem
  | some k => ownSem k

/-- The channel's number, in the order the semaphores are laid out. -/
def chanIx : Chan → ℕ
  | (a, b) => (if a then 2 else 0) + (if b then 0 else 1)

def kindNum : Kind → ℕ
  | none => 1032
  | some (x, .inl t) => 3 + 60 * chanIx x + t.val
  | some (x, .inr (.inl t)) => 33 + 60 * chanIx x + t.val
  | some (x, .inr (.inr k)) => 1000 + 8 * chanIx x + k.val

def semNum : SemLoc sig → ℕ
  | .dma q => q.val
  | .reg p => 1000 + p.val

set_option maxRecDepth 10000 in
theorem semNum_semOf : ∀ k : Kind, semNum (semOf k) = kindNum k := by decide +kernel

theorem chanIx_inj : ∀ x y : Chan, chanIx x = chanIx y → x = y := by decide
theorem chanIx_lt : ∀ x : Chan, chanIx x < 4 := by decide

theorem kindNum_inj : Function.Injective kindNum := by
  intro k k' h
  rcases k with _ | ⟨x, t | t | t⟩ <;> rcases k' with _ | ⟨y, u | u | u⟩ <;> simp only [kindNum] at h
  all_goals first
    | rfl
    | (exfalso; have := chanIx_lt x; have := t.isLt; omega)
    | (exfalso; have := chanIx_lt y; have := u.isLt; omega)
    | (exfalso; have := chanIx_lt x; have := t.isLt; have := chanIx_lt y; have := u.isLt; omega)
    | (have h1 := chanIx_lt x; have h2 := t.isLt; have h3 := chanIx_lt y; have h4 := u.isLt
       obtain rfl := chanIx_inj x y (by omega)
       obtain rfl : t = u := Fin.ext (by omega)
       rfl)

theorem semOf_inj : Function.Injective semOf := fun k k' h =>
  kindNum_inj (by rw [← semNum_semOf, ← semNum_semOf, h])

/-- Which of the ring's semaphores this is. -/
def kindOf : SemLoc sig → Option Kind := Function.partialInv semOf

theorem kindOf_semOf (k : Kind) : kindOf (semOf k) = some k := Function.partialInv_left semOf_inj k

abbrev barC (c : Dev nD) : GSem nD τ sig := ((c : Thread nD τ), .reg barSem)
abbrev sendC (x : Chan) (c : Dev nD) (t : Fin 30) : GSem nD τ sig := ((c : Thread nD τ), .dma (sem30 (sendA x) t))
abbrev recvC (x : Chan) (c : Dev nD) (t : Fin 30) : GSem nD τ sig := ((c : Thread nD τ), .dma (sem30 (recvA x) t))
abbrev credC (x : Chan) (c : Dev nD) (k : Fin 8) : GSem nD τ sig := ((c : Thread nD τ), .reg (sem8 (creditA x) k))

/-- Number `u` as a step, as a slot. -/
def stepN (u : ℕ) : Fin 30 := ⟨u % 30, Nat.mod_lt _ (by decide)⟩
def slotN (u : ℕ) : Fin 8 := ⟨u % 8, Nat.mod_lt _ (by decide)⟩

theorem stepN_val (t : Fin 30) : stepN t.val = t := Fin.ext (Nat.mod_eq_of_lt t.isLt)
theorem stepN_of {u : ℕ} (h : u < 30) : stepN u = ⟨u, h⟩ := Fin.ext (Nat.mod_eq_of_lt h)
theorem slotN_val (t : Fin 30) : slotN t.val = slotOf t := rfl
theorem slotN_add (u : ℕ) : slotN (u + 8) = slotN u := Fin.ext (Nat.add_mod_right u 8)

/-! ## What is held of a block -/

/-- The block a copy moves, read off the slot the body loads. -/
def flat (v : Vec F S1x128x1024 .bf16) : Vec F S128x1024 .bf16 := fun i => v (Shape.reshapeEquiv squeezes_S1x128x1024_S128x1024.numel_eq i)

theorem flat_inj {v w : Vec F S1x128x1024 .bf16} (h : flat v = flat w) : v = w := by
  funext i
  have := congrFun h ((Shape.reshapeEquiv squeezes_S1x128x1024_S128x1024.numel_eq).symm i)
  simpa only [flat, Equiv.apply_symm_apply] using this

/-- A block held at any contents; -/
def anyB (m : Memref sig .tc .vmem S128x1024 .bf16) (c : Dev nD) : sProp 𝕄 :=
  iprop(∃ f : Buf (Elt F) (m.view.loc (c : Thread nD τ)), (m.view.loc (c : Thread nD τ) ↦[m.view.set]{fullShare} f))

/-- at the contents `v`. -/
def valB (m : Memref sig .tc .vmem S128x1024 .bf16) (c : Dev nD) (v : Vec F S1x128x1024 .bf16) : sProp 𝕄 :=
  iprop(∃ f : Buf (Elt F) (m.view.loc (c : Thread nD τ)), ⌜m.view.read (Elt F) f = flat v⌝ ∗ (m.view.loc (c : Thread nD τ) ↦[m.view.set]{fullShare} f))

instance anyB_storable (m : Memref sig .tc .vmem S128x1024 .bf16) (c : Dev nD) : BI.Storable (upEmb : UEmb _ 𝕄) (anyB (F := F) m c) := by
  unfold anyB; infer_instance
instance valB_storable (m : Memref sig .tc .vmem S128x1024 .bf16) (c : Dev nD) (v) : BI.Storable (upEmb : UEmb _ 𝕄) (valB (F := F) m c v) := by
  unfold valB; infer_instance

theorem valB_any (m : Memref sig .tc .vmem S128x1024 .bf16) (c : Dev nD) (v : Vec F S1x128x1024 .bf16) : valB m c v ⊢ (anyB m c : sProp 𝕄) := by
  unfold valB anyB
  iintro ⟨%f, -, H⟩
  iexists f; iexact H

/-! ## The schedule -/

/-- The credit of one block's copy. -/
abbrev N : ℕ := (slot (landM (false, true)) 0).view.dmaCredit

theorem N_pos : 0 < N := View.dmaCredit_pos _ (by decide)

/-- The source of copy `t` of a channel: a staging slot; in the all-gather a seed, then the slot received two steps before. -/
def srcM : Chan → Fin 30 → Memref sig .tc .vmem S128x1024 .bf16
  | (false, b), t => slot (stageM b) (slotOf t)
  | (true, b), t => if 2 ≤ t.val then slot (landM (true, b)) (slotN (t.val - 2)) else seed (seedM b) (halfOf t)

/-- What the devices send: per channel, copy and sender. -/
abbrev Sent (F : FTy → Type) : Type := Chan → ℕ → Dev nD → Vec F S1x128x1024 .bf16

section Sched

variable (S : Sent F)

def kduties : Kind → ℕ → Finset Bool
  | none, r => if r = 0 then Finset.univ else ∅
  | some (_, .inl _), r => if r = 0 then {false} else ∅
  | some (_, .inr (.inl _)), r => if r = 0 then {false} else ∅
  | some (_, .inr (.inr k)), r => if 8 * r + k.val < 22 then {false} else ∅

def kamount : Kind → ℕ
  | none => 1
  | some (_, .inl _) => N
  | some (_, .inr (.inl _)) => N
  | some (_, .inr (.inr _)) => 1

/-- All the landing slots of one direction's channels on device `c`. -/
def landAll (b : Bool) (c : Dev nD) : sProp 𝕄 :=
  bigSep Finset.univ fun a : Bool => bigSep (Finset.Ico 0 8) fun u => anyB (slot (landM (a, b)) (slotN u)) c

def kpay (c : Dev nD) : Kind → ℕ → Bool → sProp 𝕄
  | none, _, d => landAll d (nbr d c)
  | some (x, .inl t), _, _ => anyB (srcM x t) c
  | some (x, .inr (.inl t)), _, _ =>
    iprop(valB (slot (landM x) (slotOf t)) c (S x t.val (nbr (!x.2) c)) ∗ reached ER (credC x (nbr (!x.2) c) (slotOf t)) (t.val / 8))
  | some (x, .inr (.inr k)), _, _ => anyB (slot (landM x) k) (nbr x.2 c)

/-- The ring's rounds. -/
def ringRd : Rounds.Schedule (GSem nD τ sig) Bool 𝕄 where
  duties g r := (kindOf g.2).elim ∅ fun k => kduties k r
  unitless _ := False
  amount g _ _ := (kindOf g.2).elim 1 kamount
  payload g r d := (kindOf g.2).elim iprop(emp) fun k => kpay S g.1.1 k r d
  amount_pos g _ _ _ := by
    cases kindOf g.2 with
    | none => exact Nat.one_pos
    | some k =>
      rcases k with _ | ⟨x, t | t | t⟩
      · exact Nat.one_pos
      · exact N_pos
      · exact N_pos
      · exact Nat.one_pos

instance ringRd_payload_storable (g : GSem nD τ sig) (r : ℕ) (d : Bool) :
    BI.Storable (upEmb : UEmb _ 𝕄) ((ringRd S).payload g r d) := by
  show BI.Storable upEmb ((kindOf g.2).elim iprop(emp) fun k => kpay S g.1.1 k r d)
  cases kindOf g.2 with
  | none => dsimp only [Option.elim]; infer_instance
  | some k =>
    dsimp only [Option.elim]
    rcases k with _ | ⟨x, t | t | t⟩ <;> dsimp only [kpay, landAll] <;> infer_instance

/-- The cell of a kind on a device. -/
abbrev kcell (ck : Dev nD × Kind) : GSem nD τ sig := ((ck.1 : Thread nD τ), semOf ck.2)

theorem duties_kcell (c : Dev nD) (k : Kind) (r : ℕ) : (ringRd S).duties (kcell (c, k)) r = kduties k r := by
  show (kindOf (semOf k)).elim _ _ = _; rw [kindOf_semOf]; rfl

theorem amount_kcell (c : Dev nD) (k : Kind) (r : ℕ) (d : Bool) : (ringRd S).amount (kcell (c, k)) r d = kamount k := by
  show (kindOf (semOf k)).elim _ _ = _; rw [kindOf_semOf]; rfl

theorem payload_kcell (c : Dev nD) (k : Kind) (r : ℕ) (d : Bool) : (ringRd S).payload (kcell (c, k)) r d = kpay S c k r d := by
  show (kindOf (semOf k)).elim _ _ = _; rw [kindOf_semOf]; rfl

/-- A round with one duty expects its amount and hands over its payload. -/
theorem expect_one {c : Dev nD} {k : Kind} {r : ℕ} (h : kduties k r = {false}) : (ringRd S).expect (kcell (c, k)) r = kamount k := by
  unfold Schedule.expect Schedule.amountOf; rw [duties_kcell, h, Finset.sum_singleton, amount_kcell]

theorem rest_one {c : Dev nD} {k : Kind} {r : ℕ} (h : kduties k r = {false}) :
    bigSep ((ringRd S).duties (kcell (c, k)) r \ ∅) (fun d => (ringRd S).payload (kcell (c, k)) r d) = kpay S c k r false := by
  rw [Finset.sdiff_empty, duties_kcell, h, bigSep_singleton, payload_kcell]

theorem expect_bar (c : Dev nD) : (ringRd S).expect (kcell (c, none)) 0 = 2 := by
  unfold Schedule.expect Schedule.amountOf
  rw [duties_kcell, Finset.sum_congr rfl fun d _ => amount_kcell S c none 0 d, Finset.sum_const]; rfl

theorem rest_bar (c : Dev nD) :
    bigSep ((ringRd S).duties (kcell (c, none)) 0 \ ∅) (fun d => (ringRd S).payload (kcell (c, none)) 0 d)
      = bigSep Finset.univ fun d => landAll d (nbr d c) := by
  rw [Finset.sdiff_empty, duties_kcell]
  exact bigSep_congr fun d _ => payload_kcell S c none 0 d

theorem mem_duties {c : Dev nD} {k : Kind} {r : ℕ} (h : kduties k r = {false}) : false ∈ (ringRd S).duties (kcell (c, k)) r := by
  rw [duties_kcell, h]; exact Finset.mem_singleton_self _

end Sched

/-! ## What a device owes: a list of payments, in the order it makes them -/

/-- A payment: a unit on a neighbour's barrier, the landing of copy `u`, the credit for copy `u`'s slot. -/
inductive Due where
  | bar (b : Bool)
  | recv (x : Chan) (u : ℕ)
  | cred (x : Chan) (u : ℕ)
  deriving DecidableEq

/-- The index a payment is owed at; it is also its level: every wait is below all that is still owed then. -/
def dueIx : Due → ℕ
  | .bar _ => 1
  | .recv x u => if x.1 then 1000 + 10 * u else 10 + 10 * u
  | .cred x u => if x.1 then 1025 + 10 * u else 15 + 10 * u

def dueAmt : Due → ℕ
  | .bar _ => 1
  | .recv _ _ => N
  | .cred _ _ => 1

/-- The cell a payment goes to, and the cell on which a device receives it. -/
def dueTo (c : Dev nD) : Due → GSem nD τ sig
  | .bar b => barC (nbr b c)
  | .recv x u => recvC x (nbr x.2 c) (stepN u)
  | .cred x u => credC x (nbr (!x.2) c) (slotN u)

def dueAt (c : Dev nD) : Due → GSem nD τ sig
  | .bar _ => barC c
  | .recv x u => recvC x c (stepN u)
  | .cred x u => credC x c (slotN u)

abbrev payTo (c : Dev nD) (e : Due) : TalkSites.Pay nD τ sig := (dueTo c e, dueIx e, dueAmt e)
abbrev payAt (c : Dev nD) (e : Due) : TalkSites.Pay nD τ sig := (dueAt c e, dueIx e, dueAmt e)

/-- What device `c` owes for a list of payments. -/
def owed (c : Dev nD) (l : List Due) : CellTallies nD τ sig ℕ := TalkSites.tallyL (l.map (payTo c))

theorem owed_nil (c : Dev nD) : owed c [] = 0 := rfl
theorem owed_cons (c : Dev nD) (e : Due) (l : List Due) : owed c (e :: l) = owed c l + tallyAt (dueTo c e) (dueIx e) (dueAmt e) := by
  show _ + _ = _; rw [add_comm]; rfl

/-- The payments of a step, in order. -/
def firstDues (j : ℕ) : List Due := [.recv (false, true) j, .recv (false, false) j]

def rsSend (b : Bool) (t : ℕ) : Due := if t < 28 then .recv (false, b) (t + 2) else .recv (true, b) (t - 28)

def rsDues (t : ℕ) : List Due :=
  rsSend true t :: rsSend false t :: (if t < 22 then [.cred (false, true) t, .cred (false, false) t] else [])

def agDues (t : ℕ) : List Due :=
  (if t < 28 then [.recv (true, true) (t + 2), .recv (true, false) (t + 2)] else [])
    ++ (if 2 ≤ t ∧ t < 24 then [.cred (true, true) (t - 2), .cred (true, false) (t - 2)] else [])

/-- The payments from step `t` of `n` on, then `l`. -/
def duesFrom (f : ℕ → List Due) (n t : ℕ) (l : List Due) : List Due := (List.range' t (n - t)).flatMap f ++ l

theorem duesFrom_step (f : ℕ → List Due) {n t : ℕ} (h : t < n) (l : List Due) : duesFrom f n t l = f t ++ duesFrom f n (t + 1) l := by
  unfold duesFrom
  obtain ⟨m, rfl⟩ : ∃ m, n = t + 1 + m := ⟨n - (t + 1), by omega⟩
  rw [show t + 1 + m - t = m + 1 by omega, show t + 1 + m - (t + 1) = m by omega, List.range'_succ, List.flatMap_cons, List.append_assoc]

theorem duesFrom_end (f : ℕ → List Due) (n : ℕ) (l : List Due) : duesFrom f n n l = l := by
  unfold duesFrom; rw [Nat.sub_self]; rfl

/-- What is owed from step `t` of the all-gather on, of the reduce-scatter on, of the first sends on, and in all. -/
def agFrom (t : ℕ) : List Due := duesFrom agDues 30 t []
def rsFrom (t : ℕ) : List Due := duesFrom rsDues 30 t (agFrom 0)
def firstFrom (j : ℕ) : List Due := duesFrom firstDues 2 j (rsFrom 0)
def allDues : List Due := .bar false :: .bar true :: firstFrom 0

/-- All of a list is owed above index `i` and below 2000. -/
def above (i : ℕ) (l : List Due) : Bool := l.all fun e => decide (i < dueIx e) && decide (dueIx e < 2000)

theorem above_allDues : above 0 allDues = true := by decide +kernel
theorem above_firstFrom : above 1 (firstFrom 0) = true := by decide +kernel
/-- While a step of the reduce-scatter runs, all that is owed lies above the step's receive index and above the
    credits it waits for. -/
theorem above_rsFrom : ∀ t : Fin 30, above (10 + 10 * t.val) (rsFrom t.val) = true := by decide +kernel
theorem above_agFrom : ∀ t : Fin 30, above (1000 + 10 * t.val) (agFrom t.val) = true := by decide +kernel
theorem above_agFrom0 : above 400 (agFrom 0) = true := by decide +kernel

theorem above_mono {i j : ℕ} {l : List Due} (h : above j l = true) (hij : i ≤ j) : above i l = true := by
  unfold above at *
  rw [List.all_eq_true] at *
  intro e he
  have := h e he
  rw [Bool.and_eq_true, decide_eq_true_eq, decide_eq_true_eq] at *
  omega

theorem above_tail {i : ℕ} {e : Due} {l : List Due} (h : above i (e :: l) = true) : above i l = true := by
  unfold above at *
  rw [List.all_cons, Bool.and_eq_true] at h
  exact h.2

theorem above_append {i : ℕ} {l l' : List Due} (h : above i (l ++ l') = true) : above i l' = true := by
  unfold above at *
  rw [List.all_append, Bool.and_eq_true] at h
  exact h.2

/-- The indices with a level. -/
def Lv : GSem nD τ sig → Finset ℕ := SiteBlocks.L 2000
def lv : GSem nD τ sig → ℕ → ℕ := SiteBlocks.lv

theorem dueTo_tc (c : Dev nD) (e : Due) : (dueTo c e).1.2 = .tc := by cases e <;> rfl

theorem owed_pos {c : Dev nD} {l : List Due} {i : ℕ} (h : above i l = true) (g : GSem nD τ sig) (k : ℕ) (hk : 0 < owed c l g k) :
    k ∈ Lv g ∧ i < k := by
  obtain ⟨p, hp, rfl, rfl⟩ := TalkSites.tallyL_pos hk
  obtain ⟨e, he, rfl⟩ := List.mem_map.mp hp
  unfold above at h
  rw [List.all_eq_true] at h
  have := h e he
  rw [Bool.and_eq_true, decide_eq_true_eq, decide_eq_true_eq] at this
  exact ⟨SiteBlocks.mem_L' (dueTo_tc c e) this.2, this.1⟩

/-- Every index has its level. -/
def levs : sProp 𝕄 := levAts Lv lv

instance levs_persistent : BI.Persistent (levs (F := F)) := by unfold levs; infer_instance

/-- A wait below all that is owed may be made. -/
theorem mayWait {i : ℕ} (hi : i < 2000) (c : Dev nD) (sm : SemLoc sig) {l : List Due} (h : above i l = true) :
    (levs : sProp 𝕄) ⊢ MayWait (c : Thread nD τ) sm i (owed c l) :=
  SiteBlocks.mayWait_of hi c sm _ fun g k hk => owed_pos h g k hk

/-- What device `c` still owes, with any record of waits. -/
def owesL (c : Dev nD) (l : List Due) : sProp 𝕄 := iprop(∃ W, owes (c : Thread nD τ) (owed c l) W)

end Cert.KernelIdeal.Ring
-- ==== Proof.Table.lean ====
/- What the ring computes, as tables over the devices: the product of each device, cut into blocks; the blocks
   sent on every channel; the finished blocks. And where each step finds its blocks: the offsets the body
   computes name these blocks. -/
module

public import proofs.«01_k».proof.Proof.Proto
public import Idealize.ShloMosaic.Lib.Pipeline.ValueKit.Tiles

@[expose] public section

noncomputable section

namespace Cert.KernelIdeal.Ring

open Idealize.ShloMosaic Idealize.ShloMosaic.TcCoe Cert.KernelIdeal.Gen

variable {F : FTy → Type} [FloatOps F]

/-! ## The blocks of the result -/

/-- A block of the result: the side (the clockwise one has the low columns), the chunk of 256 rows, its half. -/
abbrev Key : Type := Bool × Fin 16 × Fin 2

def colOff (b : Bool) : ℕ := if b then 0 else 1024

def keyOff (y : Key) : Fin 2 → ℕ := ![256 * y.2.1.val + 128 * y.2.2.val, colOff y.1]

theorem keyOff_inb (y : Key) : ∀ a, keyOff y a + S128x1024.size a ≤ S4096x2048.size a := by
  revert y; decide +kernel

abbrev keyRect (y : Key) : Rect S4096x2048 := outRect (keyOff y) (keyOff_inb y)

/-- Two blocks have no element in common. -/
theorem keyRect_disjoint {y z : Key} (h : y ≠ z) (i : S128x1024.Idx) : (keyRect y).idx i ∉ (keyRect z).set := by
  intro hm
  have hm' := (Rect.mem_set_unit.mp hm)
  have h0 := hm' 0
  have h1 := hm' 1
  rw [Rect.idx_unit_val] at h0 h1
  obtain ⟨b, q, j⟩ := y
  obtain ⟨b', q', j'⟩ := z
  have i0 : (i 0).val < 128 := (i 0).isLt
  have i1 : (i 1).val < 1024 := (i 1).isLt
  have e0 : S128x1024.size 0 = 128 := rfl
  have e1 : S128x1024.size 1 = 1024 := rfl
  simp only [keyOff, Matrix.cons_val_zero, Matrix.cons_val_one, e0, e1] at h0 h1
  have hb : b = b' := by
    cases b <;> cases b' <;> simp only [colOff, if_true, Bool.false_eq_true, if_false] at h1 <;> first | rfl | (exfalso; omega)
  have := j.isLt; have := j'.isLt
  have hq : q = q' := Fin.ext (by omega)
  have hj : j = j' := Fin.ext (by omega)
  exact h (by rw [hb, hq, hj])

/-- The part of a chunk a block is. -/
abbrev subRect (b : Bool) (j : Fin 2) : Rect S256x2048 :=
  Rect.unit (s := S256x2048) ![128 * j.val, colOff b] S128x1024.size (by revert b j; decide +kernel)

/-- A chunk of the result. -/
abbrev chunkRect (q : Fin 16) : Rect S4096x2048 :=
  Rect.unit (s := S4096x2048) ![256 * q.val, 0] S256x2048.size (by revert q; decide +kernel)

/-- A chunk of the rows of `x`. -/
abbrev rowRect (q : Fin 16) : Rect S4096x256 :=
  Rect.unit (s := S4096x256) ![256 * q.val, 0] S256x256.size (by revert q; decide +kernel)

theorem keyRect_idx (b : Bool) (q : Fin 16) (j : Fin 2) (i : S128x1024.Idx) : (keyRect (b, q, j)).idx i = (chunkRect q).idx ((subRect b j).idx i) := by
  funext a
  apply Fin.ext
  rw [Rect.idx_unit_val, Rect.idx_unit_val, Rect.idx_unit_val]
  match a with
  | 0 => exact Nat.add_assoc _ _ _
  | 1 => exact (Nat.zero_add _).symm

/-- A block of one chunk lies outside the other chunks. -/
theorem keyRect_chunk {b : Bool} {q q' : Fin 16} {j : Fin 2} (h : q ≠ q') (i : S128x1024.Idx) : (keyRect (b, q, j)).idx i ∉ (chunkRect q').set := by
  intro hm
  have h0 := (Rect.mem_set_unit.mp hm) 0
  rw [Rect.idx_unit_val] at h0
  have i0 : (i 0).val < 128 := (i 0).isLt
  have e0 : S256x2048.size 0 = 256 := rfl
  simp only [keyOff, Matrix.cons_val_zero, e0] at h0
  have := j.isLt
  exact h (Fin.ext (by omega))

/-! ## The chunks of the steps -/

/-- The chunk of product number `i`. -/
def gemmCh (c : Dev nD) (i : Fin 16) : Fin 16 :=
  ⟨(c.val + (if i.val % 2 = 1 then 16 - (i.val + 1) / 2 else i.val / 2)) % 16, Nat.mod_lt _ (by decide)⟩

/-- The chunk a side adds to in ring step `m` of the reduce-scatter. -/
def rsCh (b : Bool) (c : Dev nD) (m : ℕ) : Fin 16 :=
  ⟨(if b then c.val + 31 - m else c.val + m + 1) % 16, Nat.mod_lt _ (by decide)⟩

/-- The `m`-th chunk of the finished result a side stores: its own first, then those gathered. -/
def finCh (b : Bool) (c : Dev nD) (m : ℕ) : Fin 16 :=
  ⟨(if b then c.val + 17 - m else c.val + 15 + m) % 16, Nat.mod_lt _ (by decide)⟩

/-- Number `t` as a half. -/
def halfN (t : ℕ) : Fin 2 := ⟨t % 2, Nat.mod_lt _ (by decide)⟩

def rsKey (b : Bool) (c : Dev nD) (t : ℕ) : Key := (b, rsCh b c (t / 2), halfN t)
def finKey (b : Bool) (c : Dev nD) (n : ℕ) : Key := (b, finCh b c (n / 2), halfN n)

theorem xOff_eq : ∀ (d : Dev nD) (i : Fin 16), xOff d i = ![256 * (gemmCh d i).val, 0] := by decide +kernel
theorem yOff_eq : ∀ (d : Dev nD) (i : Fin 16), yOff d i = ![256 * (gemmCh d i).val, 0] := by decide +kernel
theorem seedOff_eq : ∀ (b : Bool) (d : Dev nD) (j : Fin 2), seedOff b d j = keyOff (b, d, j) := by decide +kernel
theorem rsOff_eq : ∀ (b : Bool) (d : Dev nD) (t : Fin 30), rsOff b d (ringOf t) (halfOf t) = keyOff (rsKey b d t.val) := by decide +kernel
theorem agOff_eq : ∀ (b : Bool) (d : Dev nD) (t : Fin 30), agOff b d (ringOf t) (halfOf t) = keyOff (finKey b d (t.val + 2)) := by decide +kernel

theorem gemmCh_surj : ∀ (d : Dev nD) (q : Fin 16), ∃ i, gemmCh d i = q := by decide +kernel
theorem gemmCh_inj : ∀ (d : Dev nD) (i j : Fin 16), gemmCh d i = gemmCh d j → i = j := by decide +kernel
theorem gemmCh_zero : ∀ d : Dev nD, gemmCh d 0 = d := by decide

/-- The place of a block in its side's order of finished blocks. -/
def finIx (c : Dev nD) (y : Key) : ℕ := 2 * ((if y.1 then c.val + 17 - y.2.1.val else y.2.1.val + 17 - c.val) % 16) + y.2.2.val

theorem finIx_lt (c : Dev nD) (y : Key) : finIx c y < 32 := by
  have := y.2.2.isLt; unfold finIx; omega

theorem finIx_finKey : ∀ (c : Dev nD) (b : Bool) (n : Fin 32), finIx c (finKey b c n.val) = n.val := by decide +kernel
theorem finKey_finIx : ∀ (c : Dev nD) (y : Key), finKey y.1 c (finIx c y) = y := by decide +kernel

theorem rsKey_last : ∀ (b : Bool) (c : Dev nD) (j : Fin 2), rsKey b c (28 + j.val) = finKey b c j.val := by decide +kernel

/-- Up to the last ring step, the reduce-scatter reads blocks not yet finished. -/
theorem finIx_rsKey : ∀ (b : Bool) (c : Dev nD) (t : Fin 30), t.val ≤ finIx c (rsKey b c t.val) + 28 := by decide +kernel
theorem finIx_rsKey' : ∀ (b : Bool) (c : Dev nD) (t : Fin 30), t.val - 28 ≤ finIx c (rsKey b c t.val) := by decide +kernel

/-! ## The values -/

section Values

variable (X : Dev nD → Vec F S4096x256 .f32) (W : Dev nD → Vec F S256x2048 .f32)

/-- Device `c`'s product, chunk `q`. -/
def chunk (c : Dev nD) (q : Fin 16) : Vec F S256x2048 .f32 := k0_pay1 (fun i => X c ((rowRect q).idx i)) (W c)

/-- Device `c`'s product, one block. -/
def tab (c : Dev nD) (y : Key) : Vec F S128x1024 .f32 := fun i => chunk X W c y.2.1 ((subRect y.1 y.2.2).idx i)

/-- What device `c` sends in the reduce-scatter: first blocks of its own chunk, then what it received two copies
    before with its own block added. -/
def rsSent (b : Bool) : ℕ → Dev nD → Vec F S1x128x1024 .bf16
  | 0, c => k0_pay2 (tab X W c (b, c, 0))
  | 1, c => k0_pay2 (tab X W c (b, c, 1))
  | t + 2, c => accNarrow (tab X W c (rsKey b c t)) (rsSent b t (nbr (!b) c))

/-- The finished block of a device: the sum over all devices, passed through the activation. -/
def fin (b : Bool) (c : Dev nD) (j : ℕ) : Vec F S128x1024 .f32 :=
  accAct (tab X W c (rsKey b c (28 + j))) (rsSent X W b (28 + j) (nbr (!b) c))

/-- What device `c` sends in the all-gather: its finished blocks, then what it received two copies before. -/
def agSent (b : Bool) : ℕ → Dev nD → Vec F S1x128x1024 .bf16
  | 0, c => narrow (fin X W b c 0)
  | 1, c => narrow (fin X W b c 1)
  | t + 2, c => agSent b t (nbr (!b) c)

/-- What every channel carries. -/
def sent : Sent F
  | (false, b), t, c => rsSent X W b t c
  | (true, b), t, c => agSent X W b t c

/-- The `n`-th finished block a side stores. -/
def finVal (b : Bool) (c : Dev nD) : ℕ → Vec F S128x1024 .f32
  | 0 => fin X W b c 0
  | 1 => fin X W b c 1
  | n + 2 => widen (agSent X W b n (nbr (!b) c))

/-- The result's blocks once the products are there and side `b` has stored `n b` finished blocks. -/
def outT (c : Dev nD) (n : Bool → ℕ) (y : Key) : Option (Vec F S128x1024 .f32) :=
  some (if finIx c y < n y.1 then finVal X W y.1 c (finIx c y) else tab X W c y)

/-- The result's blocks after the first `i` products. -/
def gemmT (c : Dev nD) (i : ℕ) (y : Key) : Option (Vec F S128x1024 .f32) :=
  if ∃ k : Fin 16, k.val < i ∧ gemmCh c k = y.2.1 then some (tab X W c y) else none

theorem gemmT_all (c : Dev nD) : gemmT X W c 16 = outT X W c (fun _ => 0) := by
  funext y
  obtain ⟨k, hk⟩ := gemmCh_surj c y.2.1
  unfold gemmT outT
  rw [if_pos ⟨k, k.isLt, hk⟩, if_neg (Nat.not_lt_zero _)]

/-- Storing product number `i` adds its chunk's blocks. -/
theorem gemmT_of_ne (c : Dev nD) (i : Fin 16) (y : Key) (h : gemmCh c i ≠ y.2.1) : gemmT X W c (i.val + 1) y = gemmT X W c i.val y := by
  unfold gemmT
  refine if_congr ⟨?_, ?_⟩ rfl rfl
  · rintro ⟨k, hk, e⟩
    refine ⟨k, lt_of_le_of_ne (Nat.lt_succ_iff.mp hk) fun hki => h ?_, e⟩
    rw [← e, Fin.ext hki]
  · rintro ⟨k, hk, e⟩
    exact ⟨k, Nat.lt_succ_of_lt hk, e⟩

theorem gemmT_first (c : Dev nD) (b : Bool) (j : Fin 2) : gemmT X W c 1 (b, c, j) = some (tab X W c (b, c, j)) :=
  if_pos ⟨0, Nat.one_pos, gemmCh_zero c⟩

/-- A step of the reduce-scatter finds its device's product in the block it reads. -/
theorem outT_rsKey (c : Dev nD) (n : Bool → ℕ) (b : Bool) (t : Fin 30) (h : n b ≤ t.val - 28) : outT X W c n (rsKey b c t.val) = some (tab X W c (rsKey b c t.val)) := by
  have := finIx_rsKey' b c t
  exact congrArg some (if_neg (by show ¬ finIx c (rsKey b c t.val) < n b; omega))

/-- Storing a side's next finished block. -/
theorem outT_store (c : Dev nD) (n : Bool → ℕ) (b : Bool) (h : n b < 32) :
    outT X W c (Function.update n b (n b + 1)) (finKey b c (n b)) = some (finVal X W b c (n b)) := by
  have e := finIx_finKey c b ⟨n b, h⟩
  dsimp only at e
  unfold outT
  rw [show (finKey b c (n b)).1 = b from rfl, e, Function.update_self, if_pos (Nat.lt_succ_self _)]

theorem outT_other (c : Dev nD) (n : Bool → ℕ) (b : Bool) (y : Key) (h : y ≠ finKey b c (n b)) :
    outT X W c (Function.update n b (n b + 1)) y = outT X W c n y := by
  unfold outT
  by_cases hb : y.1 = b
  · subst hb
    have hne : finIx c y ≠ n y.1 := fun e => h (by rw [← e, finKey_finIx])
    rw [Function.update_self]
    congr 1
    exact if_congr ⟨fun hl => lt_of_le_of_ne (Nat.lt_succ_iff.mp hl) hne, Nat.lt_succ_of_lt⟩ rfl rfl
  · rw [Function.update_of_ne hb]

end Values

end Cert.KernelIdeal.Ring
-- ==== Proof.Ops.lean ====
/- The single operations of the protocol, each once for every channel, step and device: a wait for a copy to land,
   to leave its source, for a credit; a copy; a credit given. -/
module

public import proofs.«01_k».proof.Proof.Table

@[expose] public section

noncomputable section

namespace Cert.KernelIdeal.Ring

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- Device `c` runs `p` and ends in `Q`. -/
abbrev runs (c : Dev nD) (p : Code F) (Q : PUnit → sProp 𝕄) : sProp 𝕄 :=
  wp frame (wpE (defs₀ (F := F)) 𝒱₀ (c : Thread nD τ) none) Set.univ p Q

/-! ## Separating conjunctions over finite sets, in the proof mode's `∗` -/

theorem star_insert {I : Type} [DecidableEq I] {i : I} {s : Finset I} (h : i ∉ s) (Φ : I → sProp 𝕄) :
    bigSep (insert i s) Φ = iprop(Φ i ∗ bigSep s Φ) := bigSep_insert h

theorem star_elim {I : Type} {s : Finset I} {i : I} (h : i ∈ s) (Φ : I → sProp 𝕄) : bigSep s Φ ⊢ Φ i := by
  classical
  exact bigSep_elim h

/-! ## Intervals of a family -/

/-- The members of `Φ` from `lo` up to, not including, `hi`. -/
def hold (Φ : ℕ → sProp 𝕄) (lo hi : ℕ) : sProp 𝕄 := bigSep (Finset.Ico lo hi) Φ

theorem hold_none {Φ : ℕ → sProp 𝕄} {lo hi : ℕ} (h : hi ≤ lo) : hold Φ lo hi = iprop(emp) := by
  unfold hold; rw [Finset.Ico_eq_empty (by omega), bigSep_empty]; rfl

theorem hold_take (Φ : ℕ → sProp 𝕄) {lo hi : ℕ} (h : lo < hi) : hold Φ lo hi = iprop(Φ lo ∗ hold Φ (lo + 1) hi) := by
  unfold hold
  rw [← star_insert (by rw [Finset.mem_Ico]; omega)]
  congr 1; ext i; rw [Finset.mem_insert, Finset.mem_Ico, Finset.mem_Ico]; omega

theorem hold_put (Φ : ℕ → sProp 𝕄) {lo hi : ℕ} (h : lo ≤ hi) : hold Φ lo (hi + 1) = iprop(Φ hi ∗ hold Φ lo hi) := by
  unfold hold
  rw [← star_insert (by rw [Finset.mem_Ico]; omega)]
  congr 1; ext i; rw [Finset.mem_insert, Finset.mem_Ico, Finset.mem_Ico]; omega

theorem hold_elim (Φ : ℕ → sProp 𝕄) {lo hi i : ℕ} (h₁ : lo ≤ i) (h₂ : i < hi) : hold Φ lo hi ⊢ Φ i :=
  star_elim (Finset.mem_Ico.mpr ⟨h₁, h₂⟩) Φ

/-- A family member put back: from the pieces, as an entailment. -/
theorem hold_put' (Φ : ℕ → sProp 𝕄) {lo hi : ℕ} (h : lo ≤ hi) : iprop(Φ hi ∗ hold Φ lo hi) ⊢ hold Φ lo (hi + 1) :=
  Entails.of_eq (hold_put Φ h).symm

theorem hold_take' (Φ : ℕ → sProp 𝕄) {lo hi : ℕ} (h : lo < hi) : hold Φ lo hi ⊢ iprop(Φ lo ∗ hold Φ (lo + 1) hi) :=
  Entails.of_eq (hold_take Φ h)

section Proto

variable (S : Sent F) (κ : Dev nD × Kind → ℕ)

/-! ## The records: every cell has its invariant, is at round 0, and the levels -/

def recs : sProp 𝕄 :=
  iprop((bigSep Finset.univ fun ck => iprop(cellInv ER (ringRd S) (κ ck) (kcell ck) ∗ reached ER (kcell ck) 0)) ∗ levs)

instance recs_persistent : BI.Persistent (recs S κ) := by unfold recs; infer_instance

theorem recs_cell (c : Dev nD) (k : Kind) : recs S κ ⊢ iprop(cellInv ER (ringRd S) (κ (c, k)) (kcell (c, k)) ∗ reached ER (kcell (c, k)) 0) := by
  unfold recs
  iintro ⟨H, -⟩
  iapply (star_elim (Finset.mem_univ (c, k)) fun ck => iprop(cellInv ER (ringRd S) (κ ck) (kcell ck) ∗ reached ER (kcell ck) 0))
  iexact H

theorem recs_inv (c : Dev nD) (k : Kind) : recs S κ ⊢ cellInv ER (ringRd S) (κ (c, k)) (kcell (c, k)) := by
  iintro H
  ihave H' := (recs_cell S κ c k) $$ H
  icases H' with ⟨H, -⟩
  iexact H

theorem recs_reached (c : Dev nD) (k : Kind) : recs S κ ⊢ reached ER (kcell (c, k)) 0 := by
  iintro H
  ihave H' := (recs_cell S κ c k) $$ H
  icases H' with ⟨-, H⟩
  iexact H

theorem recs_mayWait {i : ℕ} (hi : i < 2000) (c : Dev nD) (sm : SemLoc sig) {l : List Due} (h : above i l = true) :
    recs S κ ⊢ (MayWait (c : Thread nD τ) sm i (owed c l) : sProp 𝕄) := by
  unfold recs
  iintro ⟨-, H⟩
  iapply (mayWait (F := F) hi c sm h)
  iexact H

/-! ## Waits -/

/-- A wait for the one duty of the open round: its payload, the next round. -/
theorem wp_wait1 (c : Dev nD) (k : OwnKind) {r : ℕ} (hd : kduties (some k) r = {false}) {n : ℕ} (hn : n = kamount (some k))
    {i : ℕ} (hi : i < 2000) {l : List Due} (hl : above i l = true)
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (ownSem k) n K)
    {p : PUnit → Code F} {Q : PUnit → sProp 𝕄} :
    iprop(recs S κ ∗ cred (tallyAt (kcell (c, some k)) i (kamount (some k))) ∗ atPos ER (kcell (c, some k)) r ∅ 0 ∗ owesL c l)
      ⊢ iprop((iprop(atPos ER (kcell (c, some k)) (r + 1) ∅ 0 ∗ reached ER (kcell (c, some k)) (r + 1) ∗ kpay S c (some k) r false ∗ owesL c l)
          -∗ runs c (p ⟨⟩) Q) -∗ runs c (.op w p) Q) := by
  subst hn
  have hk : 0 + kamount (some k) = (ringRd S).expect ((c : Thread nD τ), ownSem k) r := by
    rw [Nat.zero_add]
    exact (expect_one S hd).symm
  unfold owesL
  iintro ⟨#HR, Hc, Hat, ⟨%W, HO⟩⟩ Hk
  iapply (Rounds.wp_wait_rest_token 𝒱₀ ER (ringRd S) (c : Thread nD τ) none (κ := κ (c, some k)) (sm := ownSem k) hw (Set.mem_univ (κ (c, some k))) i
      (O := owed c l) (W := W) (R := r) (m := 0) (T := ∅) hk) $$ [Hc HO Hat]
  · isplitr; · iapply (recs_inv S κ c (some k)); iexact HR
    isplitl [Hc]; · iexact Hc
    isplitl [HO]; · iexact HO
    isplitr; · iapply (recs_mayWait S κ hi c (ownSem k) hl); iexact HR
    iexact Hat
  iintro ⟨HO, Hat, Hr, Hp⟩
  ihave Hp' := (Entails.of_eq (rest_one S (c := c) hd)) $$ Hp
  iapply Hk
  isplitl [Hat]; · iexact Hat
  isplitl [Hr]; · iexact Hr
  isplitl [Hp']; · iexact Hp'
  iexists _; iexact HO

/-- A cell whose only round is done gives its counter back, at zero. -/
theorem close1 (c : Dev nD) (k : Kind) {r : ℕ} (h : ∀ s, r ≤ s → kduties k s = ∅) :
    iprop(recs S κ ∗ atPos ER (kcell (c, k)) r ∅ 0) ⊢ iprop(|={Set.univ}=> semVal (kcell (c, k)) 0) := by
  iintro ⟨#HR, Hat⟩
  iapply (cell_close ER (ringRd S) (Set.mem_univ (κ (c, k))) (fun h => h) (R := r) (fun s hs => by rw [duties_kcell]; exact h s hs))
  isplitr; · iapply (recs_inv S κ c k); iexact HR
  iexact Hat

/-- The wait for copy `t` of channel `x` to land. -/
theorem wp_recv (x : Chan) (t : Fin 30) (c : Dev nD) {l : List Due} (hl : above (dueIx (.recv x t.val)) l = true) {n : ℕ} (hn : n = N)
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (.dma (sem30 (recvA x) t)) n K)
    {p : PUnit → Code F} {Q : PUnit → sProp 𝕄} :
    iprop(recs S κ ∗ (atPos ER (recvC x c t) 0 ∅ 0 ∗ cred (tallyAt (recvC x c t) (dueIx (.recv x t.val)) N)) ∗ owesL c l)
      ⊢ iprop((iprop((semVal (recvC x c t) 0 ∗ reached ER (credC x (nbr (!x.2) c) (slotOf t)) (t.val / 8))
            ∗ valB (slot (landM x) (slotOf t)) c (S x t.val (nbr (!x.2) c)) ∗ owesL c l)
          -∗ runs c (p ⟨⟩) Q) -∗ runs c (.op w p) Q) := by
  have hi : dueIx (.recv x t.val) < 2000 := by have := t.isLt; simp only [dueIx]; split <;> omega
  iintro ⟨#HR, ⟨Hat, Hc⟩, HO⟩ Hk
  iapply (wp_wait1 S κ c (x, .inr (.inl t)) (r := 0) rfl hn hi hl hw) $$ [Hc Hat HO]
  · isplitr; · iexact HR
    isplitl [Hc]; · iexact Hc
    isplitl [Hat]; · iexact Hat
    iexact HO
  dsimp only [kpay]
  iintro ⟨Hat, -, ⟨Hv, Hr⟩, HO⟩
  imod (close1 S κ c (some (x, .inr (.inl t))) (r := 1) (fun s hs => if_neg (by omega))) $$ [Hat] with Hs
  · isplitr; · iexact HR
    iexact Hat
  iapply Hk
  isplitl [Hs Hr]
  · isplitl [Hs]; · iexact Hs
    iexact Hr
  isplitl [Hv]; · iexact Hv
  iexact HO

/-- The wait for copy `t` of channel `x` to have left its source. -/
theorem wp_sent (x : Chan) (t : Fin 30) (c : Dev nD) {l : List Due} (hl : above 0 l = true) {n : ℕ} (hn : n = N)
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (.dma (sem30 (sendA x) t)) n K)
    {p : PUnit → Code F} {Q : PUnit → sProp 𝕄} :
    iprop(recs S κ ∗ atPos ER (sendC x c t) 0 ∅ 0 ∗ cred (tallyAt (sendC x c t) 0 N) ∗ owesL c l)
      ⊢ iprop((iprop(semVal (sendC x c t) 0 ∗ anyB (srcM x t) c ∗ owesL c l) -∗ runs c (p ⟨⟩) Q) -∗ runs c (.op w p) Q) := by
  iintro ⟨#HR, Hat, Hc, HO⟩ Hk
  iapply (wp_wait1 S κ c (x, .inl t) (r := 0) rfl hn (by decide) hl hw) $$ [Hc Hat HO]
  · isplitr; · iexact HR
    isplitl [Hc]; · iexact Hc
    isplitl [Hat]; · iexact Hat
    iexact HO
  dsimp only [kpay]
  iintro ⟨Hat, -, Hv, HO⟩
  imod (close1 S κ c (some (x, .inl t)) (r := 1) (fun s hs => if_neg (by omega))) $$ [Hat] with Hs
  · isplitr; · iexact HR
    iexact Hat
  iapply Hk
  isplitl [Hs]; · iexact Hs
  isplitl [Hv]; · iexact Hv
  iexact HO

/-- The wait for credit number `u` of channel `x`: the neighbour's slot may be written again. -/
theorem wp_credit (x : Chan) (u : ℕ) (hu : u < 22) (c : Dev nD) {l : List Due} (hl : above (dueIx (.cred x u)) l = true) {n : ℕ} (hn : n = 1)
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (.reg (sem8 (creditA x) (slotN u))) n K)
    {p : PUnit → Code F} {Q : PUnit → sProp 𝕄} :
    iprop(recs S κ ∗ atPos ER (credC x c (slotN u)) (u / 8) ∅ 0 ∗ cred (tallyAt (credC x c (slotN u)) (dueIx (.cred x u)) 1) ∗ owesL c l)
      ⊢ iprop((iprop(atPos ER (credC x c (slotN u)) (u / 8 + 1) ∅ 0
            ∗ (anyB (slot (landM x) (slotN u)) (nbr x.2 c) ∗ reached ER (credC x c (slotN u)) (u / 8 + 1)) ∗ owesL c l)
          -∗ runs c (p ⟨⟩) Q) -∗ runs c (.op w p) Q) := by
  have hi : dueIx (.cred x u) < 2000 := by simp only [dueIx]; split <;> omega
  iintro ⟨#HR, Hat, Hc, HO⟩ Hk
  iapply (wp_wait1 S κ c (x, .inr (.inr (slotN u))) (r := u / 8) (if_pos (by show 8 * (u / 8) + u % 8 < 22; omega)) hn hi hl hw) $$ [Hc Hat HO]
  · isplitr; · iexact HR
    isplitl [Hc]; · iexact Hc
    isplitl [Hat]; · iexact Hat
    iexact HO
  dsimp only [kpay]
  iintro ⟨Hat, Hr, Hv, HO⟩
  iapply Hk
  isplitl [Hat]; · iexact Hat
  isplitl [Hr Hv]
  · isplitl [Hv]; · iexact Hv
    iexact Hr
  iexact HO

/-! ## Payments -/

/-- Giving credit number `u` of channel `x`: our landing slot may be written again. -/
theorem wp_give (x : Chan) (u : ℕ) (hu : u < 22) (c : Dev nD) {l : List Due} {m : ℕ} (hm : m = 1) {p : PUnit → Code F} {Q : PUnit → sProp 𝕄} :
    iprop(recs S κ ∗ dutyTok ER (credC x (nbr (!x.2) c) (slotN u)) (u / 8) false ∗ reached ER (credC x (nbr (!x.2) c) (slotN u)) (u / 8)
        ∗ anyB (slot (landM x) (slotN u)) c ∗ owesL c (.cred x u :: l))
      ⊢ iprop((owesL c l -∗ runs c (p ⟨⟩) Q)
          -∗ runs c (.op (.semSignal (Dev.tc (nbr (!x.2) c)) (sem8 (creditA x) (slotN u)) m) p) Q) := by
  subst hm
  unfold owesL
  iintro ⟨#HR, Ht, Hr, Hv, ⟨%W, HO⟩⟩ Hk
  iapply (Rounds.wp_signal 𝒱₀ ER (ringRd S) (c : Thread nD τ) none (dst := (nbr (!x.2) c : Thread nD τ)) (κ := κ (nbr (!x.2) c, some (x, .inr (.inr (slotN u)))))
      (r := u / 8) (d := false) (mem_duties S (c := nbr (!x.2) c) (k := some (x, .inr (.inr (slotN u)))) (if_pos (by show 8 * (u / 8) + u % 8 < 22; omega)))
      (amount_kcell S (nbr (!x.2) c) (some (x, .inr (.inr (slotN u)))) (u / 8) false) (dueIx (.cred x u)) (owed c l) (owed_cons c (.cred x u) l) (W := W))
    $$ [HO Ht Hr Hv]
  · isplitr; · iapply (recs_inv S κ (nbr (!x.2) c) (some (x, .inr (.inr (slotN u))))); iexact HR
    isplitl [HO]; · iexact HO
    isplitl [Ht]; · iexact Ht
    isplitl [Hv]
    · iapply (Entails.of_eq (payload_kcell S (nbr (!x.2) c) (some (x, .inr (.inr (slotN u)))) (u / 8) false).symm)
      dsimp only [kpay]
      rw [nbr_nbr']
      iexact Hv
    iexact Hr
  iintro HO
  iapply Hk
  iexists W; iexact HO

/-- Starting copy `t` of channel `x`. -/
theorem wp_copy (x : Chan) (t : Fin 30) (c : Dev nD) {l : List Due} {src : Memref sig .tc .vmem S128x1024 .bf16} (hsrc : srcM x t = src)
    {h₁ : src.view.WordExact} {h₂ : (slot (landM x) (slotOf t)).view.WordExact}
    {h₃ : DmaTarget.Typed .vmem (.dma (sem30 (recvA x) t)) (.remote (Dev.tc (nbr x.2 c) : Thread nD τ) (slot (landM x) (slotOf t)) (.dma (sem30 (sendA x) t)))}
    {p : PUnit → Code F} {Q : PUnit → sProp 𝕄} :
    iprop(recs S κ ∗ (dutyTok ER (sendC x c t) 0 false ∗ dutyTok ER (recvC x (nbr x.2 c) t) 0 false)
        ∗ valB src c (S x t.val c) ∗ (anyB (slot (landM x) (slotOf t)) (nbr x.2 c) ∗ reached ER (credC x c (slotOf t)) (t.val / 8))
        ∗ owesL c (.recv x t.val :: l))
      ⊢ iprop((iprop(cred (tallyAt (sendC x c t) 0 N) ∗ owesL c l) -∗ runs c (p ⟨⟩) Q)
          -∗ runs c (.op (.enqueueDma src (.remote (Dev.tc (nbr x.2 c)) (slot (landM x) (slotOf t)) (.dma (sem30 (sendA x) t))) (.dma (sem30 (recvA x) t)) h₁ h₂ h₃) p) Q) := by
  subst hsrc
  unfold owesL valB anyB
  iintro ⟨#HR, ⟨Ht₁, Ht₂⟩, ⟨%fs, %hfs, Hs⟩, ⟨⟨%fd, Hd⟩, Hr⟩, ⟨%W, HO⟩⟩ Hk
  iapply (Rounds.wp_send_pointsTo_with 𝒱₀ ER (ringRd S) (c : Thread nD τ) none (κ₁ := κ (c, some (x, .inl t))) (κ₂ := κ (nbr x.2 c, some (x, .inr (.inl t))))
      (r₁ := 0) (r₂ := 0) (d₁ := false) (d₂ := false) (fd := fd) (fs := fs) (F := reached ER (credC x c (slotOf t)) (t.val / 8))
      (mem_duties S (c := c) (k := some (x, .inl t)) rfl) (mem_duties S (c := nbr x.2 c) (k := some (x, .inr (.inl t))) rfl)
      (dueIx (.recv x t.val)) 0 N rfl (amount_kcell S c (some (x, .inl t)) 0 false) (amount_kcell S (nbr x.2 c) (some (x, .inr (.inl t))) 0 false)
      (owed c l) ((owed_cons c (.recv x t.val) l).trans (by rw [show dueTo c (.recv x t.val) = recvC x (nbr x.2 c) t from by rw [dueTo, stepN_val]]; rfl)) (W := W)
      (by
        refine BIBase.Entails.trans ?_ (Entails.of_eq (payload_kcell S c (some (x, .inl t)) 0 false).symm)
        dsimp only [kpay]
        unfold anyB
        iintro H; iexists fs; iexact H)
      (by
        refine BIBase.Entails.trans ?_ (Entails.of_eq (payload_kcell S (nbr x.2 c) (some (x, .inr (.inl t))) 0 false).symm)
        dsimp only [kpay]
        rw [nbr_nbr]
        unfold valB
        iintro ⟨H, Hr⟩
        isplitl [H]
        · iexists ((slot (landM x) (slotOf t)).view.write (Elt F) fd ((srcM x t).view.read (Elt F) fs) Finset.univ)
          isplitr
          · ipureintro
            exact (View.read_write_univ _ _).trans hfs
          · iexact H
        iexact Hr))
    $$ [Ht₁ Ht₂ Hs Hd Hr HO]
  · isplitr; · iapply (recs_inv S κ c (some (x, .inl t))); iexact HR
    isplitr; · iapply (recs_inv S κ (nbr x.2 c) (some (x, .inr (.inl t)))); iexact HR
    isplitl [Hs]; · iexact Hs
    isplitl [Hd Hr]
    · isplitl [Hd]; · iexact Hd
      iexact Hr
    isplitl [HO]; · iexact HO
    isplitl [Ht₁]; · iexact Ht₁
    isplitr; · iapply (recs_reached S κ c (some (x, .inl t))); iexact HR
    isplitl [Ht₂]; · iexact Ht₂
    iapply (recs_reached S κ (nbr x.2 c) (some (x, .inr (.inl t)))); iexact HR
  iintro ⟨Hc, HO⟩
  iapply Hk
  isplitl [Hc]; · iexact Hc
  iexists W; iexact HO

end Proto

end Cert.KernelIdeal.Ring
-- ==== Proof.Blocks.lean ====
/- Loads and stores of the blocks: a slot of a landing, staging or seed buffer, a block of the result, and a chunk
   of the product. -/
module

public import proofs.«01_k».proof.Proof.Ops

@[expose] public section

noncomputable section

namespace Cert.KernelIdeal.Ring

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-! ## Slots -/

theorem slot_read (m : Memref sig .tc .vmem S8x128x1024 .bf16) (k : Fin 8) (f : m.view.ty.Contents (Elt F)) :
    (slot m k).view.read (Elt F) f = flat (m.view.readAt (Elt F) (slotRect k).toLoadRect f) := rfl

theorem seed_read (m : Memref sig .tc .vmem S2x128x1024 .bf16) (k : Fin 2) (f : m.view.ty.Contents (Elt F)) :
    (seed m k).view.read (Elt F) f = flat (m.view.readAt (Elt F) (seedRect k).toLoadRect f) := rfl

theorem slot_set (m : Memref sig .tc .vmem S8x128x1024 .bf16) (k : Fin 8) : (slot m k).view.set = m.view.setOn (slotRect k).set :=
  (View.set_reshape _ _).trans (View.set_slice _ _)

theorem seed_set (m : Memref sig .tc .vmem S2x128x1024 .bf16) (k : Fin 2) : (seed m k).view.set = m.view.setOn (seedRect k).set :=
  (View.set_reshape _ _).trans (View.set_slice _ _)

theorem wp_loadSlot (m : Memref sig .tc .vmem S8x128x1024 .bf16) (k : Fin 8) (c : Dev nD) (v : Vec F S1x128x1024 .bf16)
    {p : Vec F S1x128x1024 .bf16 → Code F} {Q : PUnit → sProp 𝕄} :
    (valB (slot m k) c v : sProp 𝕄) ⊢ iprop((valB (slot m k) c v -∗ runs c (p v) Q) -∗ runs c (loadSlot m k p) Q) := by
  unfold valB loadSlot
  iintro ⟨%f, %hf, H⟩ Hk
  have hv : m.view.readAt (Elt F) (slotRect k).toLoadRect f = v := flat_inj ((slot_read m k f).symm.trans hf)
  iapply (wp_load 𝒱₀ (c : Thread nD τ) none Set.univ (m := m) (slot_set m k).ge) $$ H
  rw [hv]
  iintro H
  iapply Hk
  iexists f
  isplitr
  · ipureintro; exact hf
  iexact H

theorem wp_storeSlot (m : Memref sig .tc .vmem S8x128x1024 .bf16) (hm : m.IsWhole) (k : Fin 8) (c : Dev nD) (v : FVec F S1x128x1024 .bf16)
    {p : Code F} {Q : PUnit → sProp 𝕄} :
    (anyB (slot m k) c : sProp 𝕄) ⊢ iprop((valB (slot m k) c v -∗ runs c p Q) -∗ runs c (storeSlot m hm k v p) Q) := by
  unfold anyB valB storeSlot
  iintro ⟨%f, H⟩ Hk
  iapply (wp_load 𝒱₀ (c : Thread nD τ) none Set.univ (m := m) (slot_set m k).ge) $$ H
  iintro H
  iapply (wp_store 𝒱₀ (c : Thread nD τ) none Set.univ (m := m) (r := slotRect k) (Mk := Finset.univ)
    (by rw [View.setOn_univ]; exact (View.set_reshape _ _).ge)) $$ H
  iintro H
  iapply Hk
  iexists _
  isplitr
  swap
  · iexact H
  · ipureintro
    rw [slot_read]
    exact congrArg flat (View.read_write_univ (v := m.access (slotRect k)) f v)

theorem wp_storeSeed (m : Memref sig .tc .vmem S2x128x1024 .bf16) (hm : m.IsWhole) (k : Fin 2) (c : Dev nD) (v : FVec F S1x128x1024 .bf16)
    {p : Code F} {Q : PUnit → sProp 𝕄} :
    (anyB (seed m k) c : sProp 𝕄) ⊢ iprop((valB (seed m k) c v -∗ runs c p Q) -∗ runs c (storeSeed m hm k v p) Q) := by
  unfold anyB valB storeSeed
  iintro ⟨%f, H⟩ Hk
  iapply (wp_load 𝒱₀ (c : Thread nD τ) none Set.univ (m := m) (seed_set m k).ge) $$ H
  iintro H
  iapply (wp_store 𝒱₀ (c : Thread nD τ) none Set.univ (m := m) (r := seedRect k) (Mk := Finset.univ)
    (by rw [View.setOn_univ]; exact (View.set_reshape _ _).ge)) $$ H
  iintro H
  iapply Hk
  iexists _
  isplitr
  swap
  · iexact H
  · ipureintro
    rw [seed_read]
    exact congrArg flat (View.read_write_univ (v := m.access (seedRect k)) f v)

/-! ## The result -/

/-- The result on device `c`, its known blocks as `T` names them. -/
def outSt (out : Memref sig .tc .vmem S4096x2048 .f32) (c : Dev nD) (T : Key → Option (Vec F S128x1024 .f32)) : sProp 𝕄 :=
  iprop(∃ f : Buf (Elt F) (out.view.loc (c : Thread nD τ)),
    ⌜∀ y v, T y = some v → ∀ i, out.view.read (Elt F) f ((keyRect y).idx i) = v i⌝ ∗ (out.view.loc (c : Thread nD τ) ↦[out.view.set]{fullShare} f))

/-- A buffer at the contents `X`. -/
def inB {s : Shape} (m : Memref sig .tc .vmem s .f32) (c : Dev nD) (X : Vec F s .f32) : sProp 𝕄 :=
  iprop(∃ f : Buf (Elt F) (m.view.loc (c : Thread nD τ)), ⌜m.view.read (Elt F) f = X⌝ ∗ (m.view.loc (c : Thread nD τ) ↦[m.view.set]{fullShare} f))

section Out

variable (out : Memref sig .tc .vmem S4096x2048 .f32) (c : Dev nD)

theorem wp_loadOut {off : Fin 2 → ℕ} {h : ∀ a, off a + S128x1024.size a ≤ S4096x2048.size a} (y : Key) (hoff : off = keyOff y)
    {T : Key → Option (Vec F S128x1024 .f32)} {v : Vec F S128x1024 .f32} (hT : T y = some v)
    {p : Vec F S128x1024 .f32 → Code F} {Q : PUnit → sProp 𝕄} :
    (outSt out c T : sProp 𝕄) ⊢ iprop((outSt out c T -∗ runs c (p v) Q) -∗ runs c (loadOut out off h p) Q) := by
  subst hoff
  unfold outSt loadOut
  iintro ⟨%f, %hf, H⟩ Hk
  have hv : out.view.readAt (Elt F) (outRect (keyOff y) h).toLoadRect f = v := funext fun i => hf y v hT i
  iapply (wp_load 𝒱₀ (c : Thread nD τ) none Set.univ (m := out) (View.setOn_subset_set _ _)) $$ H
  rw [hv]
  iintro H
  iapply Hk
  iexists f
  isplitr
  · ipureintro; exact hf
  iexact H

theorem wp_storeOut {off : Fin 2 → ℕ} {h : ∀ a, off a + S128x1024.size a ≤ S4096x2048.size a} (y : Key) (hoff : off = keyOff y)
    {T : Key → Option (Vec F S128x1024 .f32)} (T' : Key → Option (Vec F S128x1024 .f32)) {v : FVec F S128x1024 .f32} (hT : T' y = some v)
    (hne : ∀ z, z ≠ y → T' z = T z) {p : Code F} {Q : PUnit → sProp 𝕄} :
    (outSt out c T : sProp 𝕄) ⊢ iprop((outSt out c T' -∗ runs c p Q) -∗ runs c (storeOut out off h v p) Q) := by
  subst hoff
  unfold outSt storeOut
  iintro ⟨%f, %hf, H⟩ Hk
  iapply (wp_load 𝒱₀ (c : Thread nD τ) none Set.univ (m := out) (View.setOn_subset_set _ _)) $$ H
  iintro H
  iapply (wp_store 𝒱₀ (c : Thread nD τ) none Set.univ (m := out) (r := outRect (keyOff y) h) (Mk := Finset.univ)
    (by rw [View.setOn_univ]; exact View.set_slice_subset _ _)) $$ H
  iintro H
  iapply Hk
  iexists _
  isplitr
  swap
  · iexact H
  · ipureintro
    intro z w hw i
    by_cases hz : z = y
    · subst hz
      obtain rfl : v = w := Option.some.inj (hT.symm.trans hw)
      exact View.read_slice_write_emb (v := out.view) (outRect (keyOff z) h) f v (Finset.mem_univ i)
    · rw [← hf z w ((hne z hz).symm.trans hw) i]
      refine View.read_slice_write_of_not_mem (v := out.view) (outRect (keyOff y) h) f v Finset.univ ?_
      rw [Rect.map_emb_univ]
      exact keyRect_disjoint hz i

/-- Rectangles at the same offset. -/
theorem rect_congr {s : Shape} {off off' size : Fin s.rank → ℕ} (h : off = off') {p : ∀ a, off a + size a ≤ s.size a} {p' : ∀ a, off' a + size a ≤ s.size a} :
    Rect.unit (s := s) off size p = Rect.unit off' size p' := by
  subst h; rfl

theorem rect_idx {s : Shape} {off off' size : Fin s.rank → ℕ} (h : off = off') {p : ∀ a, off a + size a ≤ s.size a} {p' : ∀ a, off' a + size a ≤ s.size a}
    (i : (Rect.unit (s := s) off size p).shape.Idx) : (Rect.unit (s := s) off size p).idx i = (Rect.unit off' size p').idx i := by
  subst h; rfl

theorem wp_gemmStep (X : Dev nD → Vec F S4096x256 .f32) (W : Dev nD → Vec F S256x2048 .f32) (x : Memref sig .tc .vmem S4096x256 .f32)
    (w : Memref sig .tc .vmem S256x2048 .f32) (i : Fin 16) {p : Code F} {Q : PUnit → sProp 𝕄} :
    iprop(inB x c (X c) ∗ inB w c (W c) ∗ outSt out c (gemmT X W c i.val))
      ⊢ iprop((iprop(inB x c (X c) ∗ inB w c (W c) ∗ outSt out c (gemmT X W c (i.val + 1))) -∗ runs c p Q) -∗ runs c (gemmStep x w out c i p) Q) := by
  unfold gemmStep outSt inB
  iintro ⟨⟨%fx, %hx, Hx⟩, ⟨%fw, %hw, Hw⟩, ⟨%f, %hf, H⟩⟩ Hk
  have vx : x.view.readAt (Elt F) (Rect.unit (s := S4096x256) (xOff c i) S256x256.size (xOff_inb c i)).toLoadRect fx
      = fun j => X c ((rowRect (gemmCh c i)).idx j) := by
    funext j
    show x.view.read (Elt F) fx ((Rect.unit (s := S4096x256) (xOff c i) S256x256.size (xOff_inb c i)).idx j) = _
    rw [hx, rect_idx (xOff_eq c i)]
  have vw : w.view.readAt (Elt F) (Rect.unit (s := S256x2048) ![0, 0] S256x2048.size inb_S256x2048_S256x2048_0_0).toLoadRect fw = W c := by
    funext j
    show w.view.read (Elt F) fw ((Rect.unit (s := S256x2048) ![0, 0] S256x2048.size inb_S256x2048_S256x2048_0_0).idx j) = _
    rw [hw]
    congr 1
    funext a
    apply Fin.ext
    rw [Rect.idx_unit_val]
    match a with
    | 0 => exact Nat.zero_add _
    | 1 => exact Nat.zero_add _
  iapply (wp_load 𝒱₀ (c : Thread nD τ) none Set.univ (m := x) (View.setOn_subset_set _ _)) $$ Hx
  rw [vx]
  iintro Hx
  iapply (wp_load 𝒱₀ (c : Thread nD τ) none Set.univ (m := w) (View.setOn_subset_set _ _)) $$ Hw
  rw [vw]
  iintro Hw
  iapply (wp_load 𝒱₀ (c : Thread nD τ) none Set.univ (m := out) (View.setOn_subset_set _ _)) $$ H
  iintro H
  iapply (wp_store 𝒱₀ (c : Thread nD τ) none Set.univ (m := out) (r := Rect.unit (s := S4096x2048) (yOff c i) S256x2048.size (yOff_inb c i))
    (Mk := Finset.univ) (by rw [View.setOn_univ]; exact View.set_slice_subset _ _)) $$ H
  iintro H
  iapply Hk
  isplitl [Hx]
  · iexists fx
    isplitr
    · ipureintro; exact hx
    iexact Hx
  isplitl [Hw]
  · iexists fw
    isplitr
    · ipureintro; exact hw
    iexact Hw
  iexists _
  isplitr
  swap
  · iexact H
  · ipureintro
    intro z v hv k
    by_cases hz : gemmCh c i = z.2.1
    · obtain rfl : tab X W c z = v := by
        have : gemmT X W c (i.val + 1) z = some (tab X W c z) := if_pos ⟨i, Nat.lt_succ_self _, hz⟩
        exact Option.some.inj (this.symm.trans hv)
      obtain ⟨b, q, j⟩ := z
      dsimp only at hz
      subst hz
      rw [keyRect_idx, ← rect_idx (yOff_eq c i) (p := yOff_inb c i)]
      exact View.read_slice_write_emb (v := out.view) (Rect.unit (s := S4096x2048) (yOff c i) S256x2048.size (yOff_inb c i)) f _
        (Finset.mem_univ ((subRect b j).idx k))
    · rw [← hf z v ((gemmT_of_ne X W c i z hz).symm.trans hv) k]
      refine View.read_slice_write_of_not_mem (v := out.view) (Rect.unit (s := S4096x2048) (yOff c i) S256x2048.size (yOff_inb c i)) f _ Finset.univ ?_
      rw [Rect.map_emb_univ, rect_congr (yOff_eq c i)]
      exact keyRect_chunk (fun e => hz e.symm) k

end Out

end Cert.KernelIdeal.Ring
-- ==== Proof.Sides.lean ====
/- What a channel holds on a device as its steps go by, and the operations on it: each takes the channel from one
   step to the next. -/
module

public import proofs.«01_k».proof.Proof.Blocks

@[expose] public section

noncomputable section

namespace Cert.KernelIdeal.Ring

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The credit of the copies -/

theorem land_credit : ∀ (x : Chan) (k : Fin 8), (slot (landM x) k).view.dmaCredit = N
  | (false, true), _ => rfl
  | (false, false), _ => rfl
  | (true, true), _ => rfl
  | (true, false), _ => rfl

theorem stage_credit : ∀ (b : Bool) (k : Fin 8), (slot (stageM b) k).view.dmaCredit = N
  | true, _ => rfl
  | false, _ => rfl

theorem seed_credit : ∀ (b : Bool) (k : Fin 2), (seed (seedM b) k).view.dmaCredit = N
  | true, _ => rfl
  | false, _ => rfl

/-! ## What a channel holds -/

section Families

variable (x : Chan) (c : Dev nD)

/-- Copy `u` still to be received; received. -/
def rcvTok (u : ℕ) : sProp 𝕄 := iprop(atPos ER (recvC x c (stepN u)) 0 ∅ 0 ∗ cred (tallyAt (recvC x c (stepN u)) (dueIx (.recv x u)) N))
def rcvDone (u : ℕ) : sProp 𝕄 := iprop(semVal (recvC x c (stepN u)) 0 ∗ reached ER (credC x (nbr (!x.2) c) (slotN u)) (u / 8))

/-- Copy `u` still to be sent; its wait still to be made; its copy under way; back. -/
def sndTok (u : ℕ) : sProp 𝕄 := iprop(dutyTok ER (sendC x c (stepN u)) 0 false ∗ dutyTok ER (recvC x (nbr x.2 c) (stepN u)) 0 false)
def sndPos (u : ℕ) : sProp 𝕄 := atPos ER (sendC x c (stepN u)) 0 ∅ 0
def sndCred (u : ℕ) : sProp 𝕄 := cred (tallyAt (sendC x c (stepN u)) 0 N)
def sndDone (u : ℕ) : sProp 𝕄 := semVal (sendC x c (stepN u)) 0

/-- Credit `u` still to come; the position its slot's cell is waited at; the neighbour's slot for copy `u`. -/
def crdTok (u : ℕ) : sProp 𝕄 := cred (tallyAt (credC x c (slotN u)) (dueIx (.cred x u)) 1)
def crdPos (u : ℕ) : sProp 𝕄 := atPos ER (credC x c (slotN u)) (u / 8) ∅ 0
def landN (u : ℕ) : sProp 𝕄 := iprop(anyB (slot (landM x) (slotN u)) (nbr x.2 c) ∗ reached ER (credC x c (slotN u)) (u / 8))

/-- Credit `u` still to be given. -/
def givTok (u : ℕ) : sProp 𝕄 := dutyTok ER (credC x (nbr (!x.2) c) (slotN u)) (u / 8) false

/-- Our own landing slot of copy `u`, the staging slot, the seed. -/
def landB (u : ℕ) : sProp 𝕄 := anyB (slot (landM x) (slotN u)) c
def stageB (b : Bool) (u : ℕ) : sProp 𝕄 := anyB (slot (stageM b) (slotN u)) c
def seedB (b : Bool) (u : ℕ) : sProp 𝕄 := anyB (seed (seedM b) (halfN u)) c

/-- `r` copies received. -/
def Rcv (r : ℕ) : sProp 𝕄 := iprop(hold (rcvTok x c) r 30 ∗ hold (rcvDone x c) 0 r)

/-- `s` copies sent, `w` of them waited for. -/
def Snd (s w : ℕ) : sProp 𝕄 := iprop(hold (sndTok x c) s 30 ∗ hold (sndPos x c) w 30 ∗ hold (sndCred x c) w s ∗ hold (sndDone x c) 0 w)

/-- The credits when `s` copies are sent: those after the eighth took one each. -/
def Crd (s : ℕ) : sProp 𝕄 := iprop(hold (crdTok x c) (s - 8) 22 ∗ hold (crdPos x c) (s - 8) (s - 8 + 8) ∗ hold (landN x c) s (s - 8 + 8))

/-- `g` credits given. -/
def Giv (g : ℕ) : sProp 𝕄 := hold (givTok x c) g 22

end Families

section Proto

variable (S : Sent F) (κ : Dev nD × Kind → ℕ) (x : Chan) (c : Dev nD)

/-- What was received says how far the sender is with the slot. -/
theorem Rcv_reached {u r : ℕ} (h : u < r) :
    (Rcv x c r : sProp 𝕄) ⊢ iprop(Rcv x c r ∗ reached ER (credC x (nbr (!x.2) c) (slotN u)) (u / 8)) := by
  have h₁ : (hold (rcvDone x c) 0 r : sProp 𝕄) ⊢ reached ER (credC x (nbr (!x.2) c) (slotN u)) (u / 8) := by
    refine BIBase.Entails.trans (hold_elim (rcvDone x c) (Nat.zero_le u) h) ?_
    unfold rcvDone
    iintro ⟨-, H⟩
    iexact H
  unfold Rcv
  iintro ⟨Ha, Hb⟩
  ihave H := (persistent_entails_right h₁) $$ Hb
  icases H with ⟨Hr, Hb⟩
  isplitl [Ha Hb]
  · isplitl [Ha]; · iexact Ha
    iexact Hb
  iexact Hr

/-- Receiving copy `t`. -/
theorem wp_Recv (t : Fin 30) {l : List Due} (hl : above (dueIx (.recv x t.val)) l = true) {n : ℕ} (hn : n = N)
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (.dma (sem30 (recvA x) t)) n K)
    {p : PUnit → Code F} {Q : PUnit → sProp 𝕄} :
    iprop(recs S κ ∗ Rcv x c t.val ∗ owesL c l)
      ⊢ iprop((iprop(Rcv x c (t.val + 1) ∗ valB (slot (landM x) (slotOf t)) c (S x t.val (nbr (!x.2) c)) ∗ owesL c l)
          -∗ runs c (p ⟨⟩) Q) -∗ runs c (.op w p) Q) := by
  unfold Rcv
  rw [hold_take (rcvTok x c) t.isLt, hold_put (rcvDone x c) (Nat.zero_le t.val)]
  unfold rcvTok rcvDone
  rw [stepN_val, slotN_val]
  iintro ⟨#HR, ⟨⟨Ht, Hts⟩, Hds⟩, HO⟩ Hk
  iapply (wp_recv S κ x t c hl hn hw) $$ [Ht HO]
  · isplitr; · iexact HR
    isplitl [Ht]; · iexact Ht
    iexact HO
  iintro ⟨Hd, Hv, HO⟩
  iapply Hk
  isplitl [Hts Hds Hd]
  · isplitl [Hts]; · iexact Hts
    isplitl [Hd]; · iexact Hd
    iexact Hds
  isplitl [Hv]; · iexact Hv
  iexact HO

/-- Copy `t` is back from its source. -/
theorem wp_Sent (t : Fin 30) {s : ℕ} (hs : t.val < s) {l : List Due} (hl : above 0 l = true) {n : ℕ} (hn : n = N)
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (.dma (sem30 (sendA x) t)) n K)
    {p : PUnit → Code F} {Q : PUnit → sProp 𝕄} :
    iprop(recs S κ ∗ Snd x c s t.val ∗ owesL c l)
      ⊢ iprop((iprop(Snd x c s (t.val + 1) ∗ anyB (srcM x t) c ∗ owesL c l) -∗ runs c (p ⟨⟩) Q) -∗ runs c (.op w p) Q) := by
  unfold Snd
  rw [hold_take (sndPos x c) t.isLt, hold_take (sndCred x c) hs, hold_put (sndDone x c) (Nat.zero_le t.val)]
  rw [show sndPos x c t.val = atPos ER (sendC x c t) 0 ∅ 0 by rw [sndPos, stepN_val],
    show sndCred x c t.val = cred (tallyAt (sendC x c t) 0 N) by rw [sndCred, stepN_val],
    show sndDone x c t.val = semVal (sendC x c t) 0 by rw [sndDone, stepN_val]]
  iintro ⟨#HR, ⟨Hts, ⟨Hp, Hps⟩, ⟨Hc, Hcs⟩, Hds⟩, HO⟩ Hk
  iapply (wp_sent S κ x t c hl hn hw) $$ [Hp Hc HO]
  · isplitr; · iexact HR
    isplitl [Hp]; · iexact Hp
    isplitl [Hc]; · iexact Hc
    iexact HO
  iintro ⟨Hd, Hv, HO⟩
  iapply Hk
  isplitl [Hts Hps Hcs Hds Hd]
  · isplitl [Hts]; · iexact Hts
    isplitl [Hps]; · iexact Hps
    isplitl [Hcs]; · iexact Hcs
    isplitl [Hd]; · iexact Hd
    iexact Hds
  isplitl [Hv]; · iexact Hv
  iexact HO

/-- The first eight copies need no credit: the neighbour's slots are there from the start. -/
theorem Crd_take {t : ℕ} (h : t < 8) : (Crd x c t : sProp 𝕄) ⊢ iprop(Crd x c (t + 1) ∗ landN x c t) := by
  unfold Crd
  rw [show t + 1 - 8 = 0 by omega, show t - 8 = 0 by omega, hold_take (landN x c) (show t < 0 + 8 by omega)]
  iintro ⟨Ht, Hp, ⟨Hv, Hvs⟩⟩
  isplitl [Ht Hp Hvs]
  · isplitl [Ht]; · iexact Ht
    isplitl [Hp]; · iexact Hp
    iexact Hvs
  iexact Hv

/-- The credit copy `t` needs, where it needs one: the neighbour's slot is then there to be written. -/
theorem wp_Credit (t : Fin 30) {l : List Due} (hl : 8 ≤ t.val → above (dueIx (.cred x (t.val - 8))) l = true)
    {p : Code F} {Q : PUnit → sProp 𝕄} :
    iprop(recs S κ ∗ Crd x c t.val ∗ owesL c l)
      ⊢ iprop((iprop(Crd x c (t.val + 1) ∗ landN x c t.val ∗ owesL c l) -∗ runs c p Q) -∗ runs c (waitCreditFrom (creditA x) t p) Q) := by
  have ht := t.isLt
  unfold waitCreditFrom
  by_cases h : 8 ≤ t.val
  · unfold Crd
    obtain ⟨u, hu⟩ : ∃ u, t.val = u + 8 := ⟨t.val - 8, by omega⟩
    have hsl : slotOf t = slotN u := by rw [← slotN_val, hu, slotN_add]
    rw [if_pos h, hsl]
    rw [hu] at hl ⊢
    have hu' : u < 22 := by omega
    rw [show u + 8 - 8 = u by omega, show u + 8 + 1 - 8 = u + 1 by omega, hold_none (Φ := landN x c) (le_refl (u + 8)),
      hold_none (Φ := landN x c) (show u + 1 + 8 ≤ u + 8 + 1 by omega),
      hold_take (crdTok x c) hu', hold_take (crdPos x c) (show u < u + 8 by omega), show u + 1 + 8 = (u + 8) + 1 by omega,
      hold_put (crdPos x c) (show u + 1 ≤ u + 8 by omega)]
    rw [show crdPos x c (u + 8) = atPos ER (credC x c (slotN u)) (u / 8 + 1) ∅ 0 by
        rw [crdPos, slotN_add, Nat.add_div_right u (by decide)],
      show landN x c (u + 8) = iprop(anyB (slot (landM x) (slotN u)) (nbr x.2 c) ∗ reached ER (credC x c (slotN u)) (u / 8 + 1)) by
        rw [landN, slotN_add, Nat.add_div_right u (by decide)]]
    rw [show crdPos x c u = atPos ER (credC x c (slotN u)) (u / 8) ∅ 0 from rfl,
      show crdTok x c u = cred (tallyAt (credC x c (slotN u)) (dueIx (.cred x u)) 1) from rfl]
    unfold waitCredit
    iintro ⟨#HR, ⟨⟨Ht, Hts⟩, ⟨Hp, Hps⟩, -⟩, HO⟩ Hk
    iapply (wp_credit S κ x u hu' c (by have := hl (by omega); rwa [show u + 8 - 8 = u by omega] at this) (by decide)
      (wpE_semWait_eq 𝒱₀ (c : Thread nD τ) none Set.univ)) $$ [Ht Hp HO]
    · isplitr; · iexact HR
      isplitl [Hp]; · iexact Hp
      isplitl [Ht]; · iexact Ht
      iexact HO
    iintro ⟨Hp, Hv, HO⟩
    iapply Hk
    isplitl [Hts Hps Hp]
    · isplitl [Hts]; · iexact Hts
      isplitl [Hps Hp]
      · isplitl [Hp]; · iexact Hp
        iexact Hps
      iempintro
    isplitl [Hv]; · iexact Hv
    iexact HO
  · rw [if_neg h]
    iintro ⟨-, Hc, HO⟩ Hk
    ihave Hc := (Crd_take x c (show t.val < 8 by omega)) $$ Hc
    icases Hc with ⟨Hc, Hv⟩
    iapply Hk
    isplitl [Hc]; · iexact Hc
    isplitl [Hv]; · iexact Hv
    iexact HO

/-- Sending copy `t`, its slot at the neighbour there. -/
theorem wp_Send (t : Fin 30) {w : ℕ} (hw : w ≤ t.val) {l : List Due} {src : Memref sig .tc .vmem S128x1024 .bf16} (hsrc : srcM x t = src)
    {h₁ : src.view.WordExact} {h₂ : (slot (landM x) (slotOf t)).view.WordExact}
    {h₃ : DmaTarget.Typed .vmem (.dma (sem30 (recvA x) t)) (.remote (Dev.tc (nbr x.2 c) : Thread nD τ) (slot (landM x) (slotOf t)) (.dma (sem30 (sendA x) t)))}
    {p : PUnit → Code F} {Q : PUnit → sProp 𝕄} :
    iprop(recs S κ ∗ Snd x c t.val w ∗ valB src c (S x t.val c) ∗ landN x c t.val ∗ owesL c (.recv x t.val :: l))
      ⊢ iprop((iprop(Snd x c (t.val + 1) w ∗ owesL c l) -∗ runs c (p ⟨⟩) Q)
          -∗ runs c (.op (.enqueueDma src (.remote (Dev.tc (nbr x.2 c)) (slot (landM x) (slotOf t)) (.dma (sem30 (sendA x) t))) (.dma (sem30 (recvA x) t)) h₁ h₂ h₃) p) Q) := by
  unfold Snd
  rw [hold_take (sndTok x c) t.isLt, hold_put (sndCred x c) hw]
  rw [show sndTok x c t.val = iprop(dutyTok ER (sendC x c t) 0 false ∗ dutyTok ER (recvC x (nbr x.2 c) t) 0 false) by rw [sndTok, stepN_val],
    show sndCred x c t.val = cred (tallyAt (sendC x c t) 0 N) by rw [sndCred, stepN_val]]
  unfold landN
  rw [slotN_val]
  iintro ⟨#HR, ⟨⟨Ht, Hts⟩, Hps, Hcs, Hds⟩, Hv, Hl, HO⟩ Hk
  iapply (wp_copy S κ x t c hsrc) $$ [Ht Hv Hl HO]
  · isplitr; · iexact HR
    isplitl [Ht]; · iexact Ht
    isplitl [Hv]; · iexact Hv
    isplitl [Hl]; · iexact Hl
    iexact HO
  iintro ⟨Hc, HO⟩
  iapply Hk
  isplitl [Hts Hps Hcs Hds Hc]
  · isplitl [Hts]; · iexact Hts
    isplitl [Hps]; · iexact Hps
    isplitl [Hcs Hc]
    · isplitl [Hc]; · iexact Hc
      iexact Hcs
    iexact Hds
  iexact HO

/-- Giving credit `u`. -/
theorem wp_Give (u : ℕ) (hu : u < 22) {r : ℕ} (hr : u < r) {l : List Due} {p : Code F} {Q : PUnit → sProp 𝕄} :
    iprop(recs S κ ∗ Giv x c u ∗ Rcv x c r ∗ landB x c u ∗ owesL c (.cred x u :: l))
      ⊢ iprop((iprop(Giv x c (u + 1) ∗ Rcv x c r ∗ owesL c l) -∗ runs c p Q)
          -∗ runs c (giveCredit (creditA x) (nbr (!x.2) c) (slotN u) p) Q) := by
  unfold Giv
  rw [hold_take (givTok x c) hu]
  rw [show givTok x c u = dutyTok ER (credC x (nbr (!x.2) c) (slotN u)) (u / 8) false from rfl,
    show landB x c u = anyB (slot (landM x) (slotN u)) c from rfl]
  unfold giveCredit
  iintro ⟨#HR, ⟨Ht, Hts⟩, Hr, Hv, HO⟩ Hk
  ihave H := (Rcv_reached x c hr) $$ Hr
  icases H with ⟨Hr, Hx⟩
  iapply (wp_give S κ x u hu c (by decide)) $$ [Ht Hx Hv HO]
  · isplitr; · iexact HR
    isplitl [Ht]; · iexact Ht
    isplitl [Hx]; · iexact Hx
    isplitl [Hv]; · iexact Hv
    iexact HO
  iintro HO
  iapply Hk
  isplitl [Hts]; · iexact Hts
  isplitl [Hr]; · iexact Hr
  iexact HO

end Proto

/-! ## The sides of a step -/

section Side

variable (X : Dev nD → Vec F S4096x256 .f32) (W : Dev nD → Vec F S256x2048 .f32) (κ : Dev nD × Kind → ℕ)
  (out : Memref sig .tc .vmem S4096x2048 .f32) (b : Bool) (c : Dev nD)

/-- A side of the reduce-scatter with `t` steps done and `w` of its sends waited for; with it, what it has of the
    all-gather, whose first two copies it sends. -/
def RsR (t w : ℕ) : sProp 𝕄 :=
  iprop(Rcv (false, b) c t ∗ Snd (false, b) c (min (t + 2) 30) w ∗ Crd (false, b) c (min (t + 2) 30) ∗ hold (stageB c b) (min (t + 2) 30) (w + 8)
    ∗ Snd (true, b) c (t - 28) 0 ∗ Crd (true, b) c (t - 28) ∗ hold (seedB c b) (t - 28) 2)

/-- A side of the all-gather with `t` copies taken in and `w` of its sends waited for. -/
def AgR (t w : ℕ) : sProp 𝕄 :=
  iprop(Rcv (true, b) c t ∗ Snd (true, b) c (min (t + 2) 30) w ∗ Crd (true, b) c (min (t + 2) 30) ∗ hold (landB (true, b) c) 28 t)

theorem seedB_val (u : ℕ) : (seedB c b u : sProp 𝕄) = anyB (seed (seedM b) (halfN u)) c := rfl
theorem landB_val (x : Chan) (t : Fin 30) : (landB x c t.val : sProp 𝕄) = anyB (slot (landM x) (slotOf t)) c := by rw [landB, slotN_val]
theorem stageB_val (t : Fin 30) : (stageB c b t.val : sProp 𝕄) = anyB (slot (stageM b) (slotOf t)) c := by rw [stageB, slotN_val]

/-- Waiting for a send of the reduce-scatter frees its staging slot. -/
theorem wp_waitSend (t : Fin 30) {s : ℕ} (hs : t.val < s) (hs' : s ≤ t.val + 8) {l : List Due} (hl : above 0 l = true)
    {p : Code F} {Q : PUnit → sProp 𝕄} :
    iprop(recs (sent X W) κ ∗ (Snd (false, b) c s t.val ∗ hold (stageB c b) s (t.val + 8)) ∗ owesL c l)
      ⊢ iprop((iprop((Snd (false, b) c s (t.val + 1) ∗ hold (stageB c b) s (t.val + 1 + 8)) ∗ owesL c l) -∗ runs c p Q) -∗ runs c (waitSend (rsOf b) t p) Q) := by
  rw [show t.val + 1 + 8 = (t.val + 8) + 1 by omega, hold_put (stageB c b) hs',
    show stageB c b (t.val + 8) = anyB (srcM (false, b) t) c by rw [stageB, slotN_add, slotN_val]; rfl]
  unfold waitSend
  iintro ⟨#HR, ⟨Hs, Hh⟩, HO⟩ Hk
  iapply (wp_Sent (sent X W) κ (false, b) c t hs hl (stage_credit b _) (wpE_waitDma2_eq 𝒱₀ (c : Thread nD τ) none Set.univ)) $$ [Hs HO]
  · isplitr; · iexact HR
    isplitl [Hs]; · iexact Hs
    iexact HO
  iintro ⟨Hs, Hv, HO⟩
  iapply Hk
  isplitr [HO]; swap; · iexact HO
  isplitl [Hs]; · iexact Hs
  isplitl [Hv]; · iexact Hv
  iexact Hh

/-- A side of a step that passes the sum on. -/
theorem wp_rsSide_send (t : Fin 30) (ht : t.val + 2 < 30) (n : Bool → ℕ) (hn : n b = 0) {w : ℕ} (hw : w ≤ t.val + 2) (hw' : t.val + 2 < w + 8)
    {l : List Due} (hl : above (10 + 10 * t.val) (rsSend b t.val :: l) = true) {p : Code F} {Q : PUnit → sProp 𝕄} :
    iprop(recs (sent X W) κ ∗ RsR b c t.val w ∗ outSt out c (outT X W c n) ∗ owesL c (rsSend b t.val :: l))
      ⊢ iprop((iprop(RsR b c (t.val + 1) w ∗ landB (false, b) c t.val ∗ outSt out c (outT X W c n) ∗ owesL c l) -∗ runs c p Q)
          -∗ runs c (rsSide (rsOf b) (agOf b) b out c t p) Q) := by
  unfold RsR rsSide
  simp only [dif_pos ht]
  rw [show min (t.val + 2) 30 = t.val + 2 by omega, show min (t.val + 1 + 2) 30 = t.val + 2 + 1 by omega,
    show t.val - 28 = 0 by omega, show t.val + 1 - 28 = 0 by omega, hold_take (stageB c b) hw', landB_val,
    show (stageB c b (t.val + 2) : sProp 𝕄) = anyB (slot (stageM b) (slotOf ⟨t.val + 2, ht⟩)) c from stageB_val b c ⟨t.val + 2, ht⟩]
  rw [rsSend, if_pos (by omega)] at hl ⊢
  have hv : accNarrow (tab X W c (rsKey b c t.val)) (sent X W (false, b) t.val (nbr (!b) c)) = sent X W (false, b) (t.val + 2) c := rfl
  have ix : dueIx (.recv (false, b) t.val) ≤ 10 + 10 * t.val := le_refl _
  have ixc : 8 ≤ t.val + 2 → dueIx (.cred (false, b) (t.val + 2 - 8)) ≤ 10 + 10 * t.val := fun h => by
    show 15 + 10 * (t.val + 2 - 8) ≤ 10 + 10 * t.val; omega
  unfold waitRecv
  iintro ⟨#HR, ⟨Hr, Hs, Hc, ⟨Hst, Hsts⟩, Hrest⟩, Hout, HO⟩ Hk
  iapply (wp_Recv (sent X W) κ (false, b) c t (above_mono hl ix) (land_credit _ _) (wpE_waitDma2_eq 𝒱₀ (c : Thread nD τ) none Set.univ)) $$ [Hr HO]
  · isplitr; · iexact HR
    isplitl [Hr]; · iexact Hr
    iexact HO
  iintro ⟨Hr, Hv, HO⟩
  iapply (wp_loadOut out c (rsKey b c t.val) (rsOff_eq b c t) (outT_rsKey X W c n b t (by omega))) $$ Hout
  iintro Hout
  iapply (wp_loadSlot (landM (false, b)) (slotOf t) c (sent X W (false, b) t.val (nbr (!b) c))) $$ Hv
  iintro Hv
  rw [hv]
  iapply (wp_storeSlot (stageM b) (rsOf b).hstage (slotOf ⟨t.val + 2, ht⟩) c (sent X W (false, b) (t.val + 2) c)) $$ Hst
  iintro Hst
  iapply (wp_Credit (sent X W) κ (false, b) c ⟨t.val + 2, ht⟩ (fun h => above_mono hl (ixc h))) $$ [Hc HO]
  · isplitr; · iexact HR
    isplitl [Hc]; · iexact Hc
    iexact HO
  iintro ⟨Hc, Hln, HO⟩
  unfold sendRs
  iapply (wp_Send (sent X W) κ (false, b) c ⟨t.val + 2, ht⟩ hw (src := slot (stageM b) (slotOf ⟨t.val + 2, ht⟩)) rfl) $$ [Hs Hst Hln HO]
  · isplitr; · iexact HR
    isplitl [Hs]; · iexact Hs
    isplitl [Hst]; · iexact Hst
    isplitl [Hln]; · iexact Hln
    iexact HO
  iintro ⟨Hs, HO⟩
  iapply Hk
  isplitl [Hr Hs Hc Hsts Hrest]
  · isplitl [Hr]; · iexact Hr
    isplitl [Hs]; · iexact Hs
    isplitl [Hc]; · iexact Hc
    isplitl [Hsts]; · iexact Hsts
    iexact Hrest
  isplitl [Hv]; · iapply (valB_any _ _ _) $$ Hv
  isplitl [Hout]; · iexact Hout
  iexact HO

/-- A last step of the reduce-scatter, and the first copies, by half. -/
abbrev lastT (j : Fin 2) : Fin 30 := ⟨28 + j.val, by omega⟩
abbrev firstT (j : Fin 2) : Fin 30 := ⟨j.val, by omega⟩

theorem halfOf_last : ∀ j : Fin 2, halfOf (lastT j) = halfOf (firstT j) := by decide

/-- A side of a step that finishes its device's block and sends it off. -/
theorem wp_rsSide_last (j : Fin 2) (n : Bool → ℕ) (hn : n b = j.val) {w : ℕ}
    {l : List Due} (hl : above (10 + 10 * (28 + j.val)) (rsSend b (28 + j.val) :: l) = true) {p : Code F} {Q : PUnit → sProp 𝕄} :
    iprop(recs (sent X W) κ ∗ RsR b c (28 + j.val) w ∗ outSt out c (outT X W c n) ∗ owesL c (rsSend b (28 + j.val) :: l))
      ⊢ iprop((iprop(RsR b c (28 + j.val + 1) w ∗ landB (false, b) c (28 + j.val) ∗ outSt out c (outT X W c (Function.update n b (n b + 1))) ∗ owesL c l) -∗ runs c p Q)
          -∗ runs c (rsSide (rsOf b) (agOf b) b out c (lastT j) p) Q) := by
  have hj := j.isLt
  have ht : ¬ 28 + j.val + 2 < 30 := by omega
  unfold RsR rsSide
  simp only [dif_neg ht]
  have hj' : (⟨28 + j.val - 28, by omega⟩ : Fin 30) = firstT j := Fin.ext (by show 28 + j.val - 28 = j.val; omega)
  have hh : halfOf (lastT j) = halfOf (firstT j) := halfOf_last j
  have hh' : halfN j.val = halfOf (firstT j) := rfl
  simp only [hj']
  rw [show min (28 + j.val + 2) 30 = 30 by omega, show min (28 + j.val + 1 + 2) 30 = 30 by omega,
    show 28 + j.val - 28 = j.val by omega, show 28 + j.val + 1 - 28 = j.val + 1 by omega, hold_take (seedB c b) hj,
    seedB_val, hh', show (landB (false, b) c (28 + j.val) : sProp 𝕄) = anyB (slot (landM (false, b)) (slotOf (lastT j))) c from landB_val c (false, b) (lastT j)]
  rw [rsSend, if_neg (by omega), show 28 + j.val - 28 = j.val by omega] at hl ⊢
  have hv : narrow (accAct (tab X W c (rsKey b c (28 + j.val))) (sent X W (false, b) (28 + j.val) (nbr (!b) c))) = sent X W (true, b) j.val c := by
    match j with
    | 0 => rfl
    | 1 => rfl
  have hf : accAct (tab X W c (rsKey b c (28 + j.val))) (sent X W (false, b) (28 + j.val) (nbr (!b) c)) = finVal X W b c (n b) := by
    rw [hn]
    match j with
    | 0 => rfl
    | 1 => rfl
  have ix : dueIx (.recv (false, b) (28 + j.val)) ≤ 10 + 10 * (28 + j.val) := le_refl _
  unfold waitRecv
  iintro ⟨#HR, ⟨Hr, Hs, Hc, Hsts, Has, Hac, ⟨Hsd, Hsds⟩⟩, Hout, HO⟩ Hk
  iapply (wp_Recv (sent X W) κ (false, b) c (lastT j) (above_mono hl ix) (land_credit _ _) (wpE_waitDma2_eq 𝒱₀ (c : Thread nD τ) none Set.univ)) $$ [Hr HO]
  · isplitr; · iexact HR
    isplitl [Hr]; · iexact Hr
    iexact HO
  iintro ⟨Hr, Hv, HO⟩
  iapply (wp_loadOut out c (rsKey b c (28 + j.val)) (rsOff_eq b c (lastT j)) (outT_rsKey X W c n b (lastT j) (by show n b ≤ 28 + j.val - 28; omega))) $$ Hout
  iintro Hout
  iapply (wp_loadSlot (landM (false, b)) (slotOf (lastT j)) c (sent X W (false, b) (28 + j.val) (nbr (!b) c))) $$ Hv
  iintro Hv
  rw [hv]
  iapply (wp_storeOut out c (rsKey b c (28 + j.val)) (rsOff_eq b c (lastT j)) (outT X W c (Function.update n b (n b + 1)))
    (by rw [hf, rsKey_last, ← hn, outT_store X W c n b (by omega)])
    (fun z hz => outT_other X W c n b z (by rw [hn, ← rsKey_last]; exact hz))) $$ Hout
  iintro Hout
  rw [hh]
  iapply (wp_storeSeed (seedM b) (agOf b).hseed (halfOf (firstT j)) c (sent X W (true, b) j.val c)) $$ Hsd
  iintro Hsd
  ihave Hac := (Crd_take (true, b) c (show j.val < 8 by omega)) $$ Hac
  icases Hac with ⟨Hac, Hln⟩
  unfold sendSeed
  iapply (wp_Send (sent X W) κ (true, b) c (firstT j) (Nat.zero_le _) (src := seed (seedM b) (halfOf (firstT j))) (if_neg (by show ¬ 2 ≤ j.val; omega))) $$ [Has Hsd Hln HO]
  · isplitr; · iexact HR
    isplitl [Has]; · iexact Has
    isplitl [Hsd]; · iexact Hsd
    isplitl [Hln]; · iexact Hln
    iexact HO
  iintro ⟨Has, HO⟩
  iapply Hk
  isplitl [Hr Hs Hc Hsts Has Hac Hsds]
  · isplitl [Hr]; · iexact Hr
    isplitl [Hs]; · iexact Hs
    isplitl [Hc]; · iexact Hc
    isplitl [Hsts]; · iexact Hsts
    isplitl [Has]; · iexact Has
    isplitl [Hac]; · iexact Hac
    iexact Hsds
  isplitl [Hv]; · iapply (valB_any _ _ _) $$ Hv
  isplitl [Hout]; · iexact Hout
  iexact HO

/-- A side of a step of the reduce-scatter. -/
theorem wp_rsSide (t : Fin 30) (n : Bool → ℕ) (hn : n b = t.val - 28) {w : ℕ} (hw : w ≤ t.val + 2) (hw' : t.val + 2 < w + 8)
    {l : List Due} (hl : above (10 + 10 * t.val) (rsSend b t.val :: l) = true) {p : Code F} {Q : PUnit → sProp 𝕄} :
    iprop(recs (sent X W) κ ∗ RsR b c t.val w ∗ outSt out c (outT X W c n) ∗ owesL c (rsSend b t.val :: l))
      ⊢ iprop((iprop(RsR b c (t.val + 1) w ∗ landB (false, b) c t.val ∗ outSt out c (outT X W c (Function.update n b (t.val + 1 - 28))) ∗ owesL c l) -∗ runs c p Q)
          -∗ runs c (rsSide (rsOf b) (agOf b) b out c t p) Q) := by
  by_cases ht : t.val + 2 < 30
  · rw [show Function.update n b (t.val + 1 - 28) = n by rw [show t.val + 1 - 28 = n b by omega, Function.update_eq_self]]
    exact wp_rsSide_send X W κ out b c t ht n (by omega) hw hw' hl
  · obtain ⟨j, hj⟩ : ∃ j : Fin 2, t = lastT j := ⟨⟨t.val - 28, by omega⟩, Fin.ext (by show t.val = 28 + (t.val - 28); omega)⟩
    have hv : t.val = 28 + j.val := congrArg Fin.val hj
    rw [show t.val + 1 - 28 = n b + 1 by omega, hv, hj]
    rw [hv] at hl
    exact wp_rsSide_last X W κ out b c j n (by omega) hl

/-- What a side of step `t` of the all-gather pays: the copy it forwards, where it forwards one. -/
def fwdDue (t : ℕ) (l : List Due) : List Due := if t < 28 then .recv (true, b) (t + 2) :: l else l

/-- Taking in copy `t` of the all-gather. -/
theorem wp_waitRecvAg (t : Fin 30) {l : List Due} (hl : above (1000 + 10 * t.val) l = true) {p : Code F} {Q : PUnit → sProp 𝕄} :
    iprop(recs (sent X W) κ ∗ Rcv (true, b) c t.val ∗ owesL c l)
      ⊢ iprop((iprop(Rcv (true, b) c (t.val + 1) ∗ valB (slot (landM (true, b)) (slotOf t)) c (sent X W (true, b) t.val (nbr (!b) c)) ∗ owesL c l)
          -∗ runs c p Q) -∗ runs c (waitRecvAg (agOf b) t p) Q) := by
  have ix : dueIx (.recv (true, b) t.val) ≤ 1000 + 10 * t.val := le_refl _
  unfold waitRecvAg
  by_cases h : 2 ≤ t.val
  · rw [dif_pos h]
    exact wp_Recv (sent X W) κ (true, b) c t (above_mono hl ix) (land_credit (true, b) _) (wpE_waitDma2_eq 𝒱₀ (c : Thread nD τ) none Set.univ) (p := fun _ => p)
  · rw [dif_neg h]
    exact wp_Recv (sent X W) κ (true, b) c t (above_mono hl ix) (land_credit (true, b) _) (wpE_waitDma2_eq 𝒱₀ (c : Thread nD τ) none Set.univ) (p := fun _ => p)

/-- Waiting for a send of the all-gather: its source is free again. -/
theorem wp_waitSendAg (t : Fin 30) {s : ℕ} (hs : t.val < s) {l : List Due} (hl : above 0 l = true) {p : Code F} {Q : PUnit → sProp 𝕄} :
    iprop(recs (sent X W) κ ∗ Snd (true, b) c s t.val ∗ owesL c l)
      ⊢ iprop((iprop(Snd (true, b) c s (t.val + 1) ∗ anyB (srcM (true, b) t) c ∗ owesL c l) -∗ runs c p Q) -∗ runs c (waitSendAg (agOf b) t p) Q) := by
  unfold waitSendAg
  by_cases h : 2 ≤ t.val
  · rw [dif_pos h]
    exact wp_Sent (sent X W) κ (true, b) c t hs hl (land_credit (true, b) _) (wpE_waitDma2_eq 𝒱₀ (c : Thread nD τ) none Set.univ) (p := fun _ => p)
  · rw [dif_neg h]
    exact wp_Sent (sent X W) κ (true, b) c t hs hl (seed_credit b _) (wpE_waitDma2_eq 𝒱₀ (c : Thread nD τ) none Set.univ) (p := fun _ => p)

/-- A side of a step of the all-gather. -/
theorem wp_agSide (t : Fin 30) (n : Bool → ℕ) (hn : n b = t.val + 2) {w : ℕ} (hw : w ≤ t.val + 2)
    {l : List Due} (hl : above (1000 + 10 * t.val) (fwdDue b t.val l) = true) {p : Code F} {Q : PUnit → sProp 𝕄} :
    iprop(recs (sent X W) κ ∗ AgR b c t.val w ∗ outSt out c (outT X W c n) ∗ owesL c (fwdDue b t.val l))
      ⊢ iprop((iprop(AgR b c (t.val + 1) w ∗ outSt out c (outT X W c (Function.update n b (t.val + 3))) ∗ owesL c l) -∗ runs c p Q)
          -∗ runs c (agSide (agOf b) b out c t p) Q) := by
  have ht := t.isLt
  have ixc : 8 ≤ t.val + 2 → dueIx (.cred (true, b) (t.val + 2 - 8)) ≤ 1000 + 10 * t.val := fun h => by
    show 1025 + 10 * (t.val + 2 - 8) ≤ 1000 + 10 * t.val; omega
  have hT : outT X W c (Function.update n b (t.val + 3)) (finKey b c (t.val + 2)) = some (widen (sent X W (true, b) t.val (nbr (!b) c))) := by
    have h := outT_store X W c n b (by omega)
    rw [hn] at h
    exact h
  have hO : ∀ z, z ≠ finKey b c (t.val + 2) → outT X W c (Function.update n b (t.val + 3)) z = outT X W c n z := fun z hz => by
    have h := outT_other X W c n b z (by rw [hn]; exact hz)
    rw [hn] at h
    exact h
  unfold AgR agSide
  iintro ⟨#HR, ⟨Hr, Hs, Hc, Hl⟩, Hout, HO⟩ Hk
  iapply (wp_waitRecvAg X W κ b c t hl) $$ [Hr HO]
  · isplitr; · iexact HR
    isplitl [Hr]; · iexact Hr
    iexact HO
  iintro ⟨Hr, Hv, HO⟩
  iapply (wp_loadSlot (landM (true, b)) (slotOf t) c (sent X W (true, b) t.val (nbr (!b) c))) $$ Hv
  iintro Hv
  iapply (wp_storeOut out c (finKey b c (t.val + 2)) (agOff_eq b c t) (outT X W c (Function.update n b (t.val + 3))) hT hO) $$ Hout
  iintro Hout
  by_cases h : t.val + 2 < 30
  · rw [dif_pos h, hold_none (Φ := landB (true, b) c) (show t.val ≤ 28 by omega), hold_none (Φ := landB (true, b) c) (show t.val + 1 ≤ 28 by omega),
      show min (t.val + 2) 30 = t.val + 2 by omega, show min (t.val + 1 + 2) 30 = t.val + 2 + 1 by omega]
    rw [fwdDue, if_pos (by omega)] at hl ⊢
    iapply (wp_Credit (sent X W) κ (true, b) c ⟨t.val + 2, h⟩ (fun h => above_mono hl (ixc h))) $$ [Hc HO]
    · isplitr; · iexact HR
      isplitl [Hc]; · iexact Hc
      iexact HO
    iintro ⟨Hc, Hln, HO⟩
    unfold sendFwd
    iapply (wp_Send (sent X W) κ (true, b) c ⟨t.val + 2, h⟩ hw (src := slot (landM (true, b)) (slotOf t))
      (by show (if 2 ≤ t.val + 2 then slot (landM (true, b)) (slotN (t.val + 2 - 2)) else seed (seedM b) (halfOf ⟨t.val + 2, h⟩)) = _; rw [if_pos (by omega), Nat.add_sub_cancel, slotN_val])) $$ [Hs Hv Hln HO]
    · isplitr; · iexact HR
      isplitl [Hs]; · iexact Hs
      isplitl [Hv]; · iexact Hv
      isplitl [Hln]; · iexact Hln
      iexact HO
    iintro ⟨Hs, HO⟩
    iapply Hk
    isplitl [Hr Hs Hc]
    · isplitl [Hr]; · iexact Hr
      isplitl [Hs]; · iexact Hs
      isplitl [Hc]; · iexact Hc
      iempintro
    isplitl [Hout]; · iexact Hout
    iexact HO
  · rw [dif_neg h, hold_put (landB (true, b) c) (show 28 ≤ t.val by omega), landB_val,
      show min (t.val + 2) 30 = 30 by omega, show min (t.val + 1 + 2) 30 = 30 by omega]
    rw [fwdDue, if_neg (by omega)]
    iapply Hk
    isplitl [Hr Hs Hc Hl Hv]
    · isplitl [Hr]; · iexact Hr
      isplitl [Hs]; · iexact Hs
      isplitl [Hc]; · iexact Hc
      isplitl [Hv]; · iapply (valB_any _ _ _) $$ Hv
      iexact Hl
    isplitl [Hout]; · iexact Hout
    iexact HO

/-- A side of the first sends. -/
theorem wp_firstSide (j : Fin 2) {l : List Due} {p : Code F} {Q : PUnit → sProp 𝕄} :
    iprop(recs (sent X W) κ ∗ (Snd (false, b) c j.val 0 ∗ Crd (false, b) c j.val ∗ hold (stageB c b) j.val 8) ∗ outSt out c (gemmT X W c 1) ∗ owesL c (.recv (false, b) j.val :: l))
      ⊢ iprop((iprop((Snd (false, b) c (j.val + 1) 0 ∗ Crd (false, b) c (j.val + 1) ∗ hold (stageB c b) (j.val + 1) 8) ∗ outSt out c (gemmT X W c 1) ∗ owesL c l) -∗ runs c p Q)
          -∗ runs c (firstSide (rsOf b) b out c j p) Q) := by
  have hj := j.isLt
  have hv : k0_pay2 (tab X W c (b, c, j)) = sent X W (false, b) j.val c := by
    match j with
    | 0 => rfl
    | 1 => rfl
  unfold firstSide
  rw [hold_take (stageB c b) (show j.val < 8 by omega),
    show (stageB c b j.val : sProp 𝕄) = anyB (slot (stageM b) (slotOf (firstT j))) c from stageB_val b c (firstT j)]
  iintro ⟨#HR, ⟨Hs, Hc, ⟨Hst, Hsts⟩⟩, Hout, HO⟩ Hk
  iapply (wp_loadOut out c (b, c, j) (seedOff_eq b c j) (gemmT_first X W c b j)) $$ Hout
  iintro Hout
  rw [hv]
  iapply (wp_storeSlot (stageM b) (rsOf b).hstage (slotOf (firstT j)) c (sent X W (false, b) j.val c)) $$ Hst
  iintro Hst
  ihave Hc := (Crd_take (false, b) c (show j.val < 8 by omega)) $$ Hc
  icases Hc with ⟨Hc, Hln⟩
  unfold sendRs
  iapply (wp_Send (sent X W) κ (false, b) c (firstT j) (Nat.zero_le _) (src := slot (stageM b) (slotOf (firstT j))) rfl) $$ [Hs Hst Hln HO]
  · isplitr; · iexact HR
    isplitl [Hs]; · iexact Hs
    isplitl [Hst]; · iexact Hst
    isplitl [Hln]; · iexact Hln
    iexact HO
  iintro ⟨Hs, HO⟩
  iapply Hk
  isplitl [Hs Hc Hsts]
  · isplitl [Hs]; · iexact Hs
    isplitl [Hc]; · iexact Hc
    iexact Hsts
  isplitl [Hout]; · iexact Hout
  iexact HO

end Side

end Cert.KernelIdeal.Ring
-- ==== Proof.Body.lean ====
/- The steps of the ring on one device, and the whole body. -/
module

public import proofs.«01_k».proof.Proof.Sides

@[expose] public section

noncomputable section

namespace Cert.KernelIdeal.Ring

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- Steps in a row, each from one state to the next. -/
theorem wp_countdown (c : Dev nD) {R : sProp 𝕄} [BI.Persistent R] {n : ℕ} (f : Fin (n + 1) → Code F → Code F) (I : ℕ → sProp 𝕄) (k : Code F) (Q : PUnit → sProp 𝕄) :
    ∀ m, m ≤ n + 1 → (∀ (i : Fin (n + 1)) (p : Code F), n + 1 ≤ i.val + m → iprop(R ∗ I i.val) ⊢ iprop((I (i.val + 1) -∗ runs c p Q) -∗ runs c (f i p) Q)) →
      iprop(R ∗ I (n + 1 - m)) ⊢ iprop((I (n + 1) -∗ runs c k Q) -∗ runs c (countdown f k m) Q)
  | 0, _, _ => by
    unfold countdown
    iintro ⟨-, H⟩ Hk
    iapply Hk; iexact H
  | m + 1, hm, h => by
    have e : n + 1 - (m + 1) = n - m := by omega
    rw [e]
    unfold countdown
    iintro ⟨#HR, H⟩ Hk
    iapply (h ⟨n - m, Nat.lt_succ_of_le (Nat.sub_le n m)⟩ (countdown f k m) (by show n + 1 ≤ n - m + (m + 1); omega)) $$ [H]
    · isplitr; · iexact HR
      iexact H
    iintro H
    dsimp only
    rw [show n - m + 1 = n + 1 - m by omega]
    iapply (wp_countdown c f I k Q m (by omega) (fun i p hi => h i p (by omega))) $$ [H]
    · isplitr; · iexact HR
      iexact H
    iexact Hk

section Steps

variable (X : Dev nD → Vec F S4096x256 .f32) (W : Dev nD → Vec F S256x2048 .f32) (κ : Dev nD × Kind → ℕ)
  (out : Memref sig .tc .vmem S4096x2048 .f32) (c : Dev nD)

/-- What both sides of a family hold. -/
def both (Φ : Bool → sProp 𝕄) : sProp 𝕄 := iprop(Φ true ∗ Φ false)

/-! ## The first sends -/

def FirstAt (j : ℕ) (b : Bool) : sProp 𝕄 := iprop(Snd (false, b) c j 0 ∗ Crd (false, b) c j ∗ hold (stageB c b) j 8)

def FirstInv (j : ℕ) : sProp 𝕄 := iprop(both (FirstAt c j) ∗ outSt out c (gemmT X W c 1) ∗ owesL c (firstFrom j))

theorem wp_firstStep (j : Fin 2) {p : Code F} {Q : PUnit → sProp 𝕄} :
    iprop(recs (sent X W) κ ∗ FirstInv X W out c j.val)
      ⊢ iprop((FirstInv X W out c (j.val + 1) -∗ runs c p Q) -∗ runs c (firstStep (rsOf true) (rsOf false) out c j p) Q) := by
  unfold FirstInv both FirstAt firstStep
  rw [show firstFrom j.val = .recv (false, true) j.val :: .recv (false, false) j.val :: firstFrom (j.val + 1) from duesFrom_step firstDues j.isLt _]
  iintro ⟨#HR, ⟨Ha, Hb⟩, Hout, HO⟩ Hk
  iapply (wp_firstSide X W κ out true c j) $$ [Ha Hout HO]
  · isplitr; · iexact HR
    isplitl [Ha]; · iexact Ha
    isplitl [Hout]; · iexact Hout
    iexact HO
  iintro ⟨Ha, Hout, HO⟩
  iapply (wp_firstSide X W κ out false c j) $$ [Hb Hout HO]
  · isplitr; · iexact HR
    isplitl [Hb]; · iexact Hb
    isplitl [Hout]; · iexact Hout
    iexact HO
  iintro ⟨Hb, Hout, HO⟩
  iapply Hk
  isplitl [Ha Hb]
  · isplitl [Ha]; · iexact Ha
    iexact Hb
  isplitl [Hout]; · iexact Hout
  iexact HO

/-! ## The reduce-scatter -/

def RsAt (t w : ℕ) (b : Bool) : sProp 𝕄 := iprop(RsR b c t w ∗ hold (landB (false, b) c) 22 t ∗ Giv (false, b) c t)

def RsInv (t : ℕ) : sProp 𝕄 := iprop(both (RsAt c t (t - 6)) ∗ outSt out c (outT X W c fun _ => t - 28) ∗ owesL c (rsFrom t))

/-- The waits that open a step. -/
theorem wp_rsWait (t : Fin 30) (h : 6 ≤ t.val) (b : Bool) {l : List Due} (hl : above 0 l = true) {p : Code F} {Q : PUnit → sProp 𝕄} :
    iprop(recs (sent X W) κ ∗ RsR b c t.val (t.val - 6) ∗ owesL c l)
      ⊢ iprop((iprop(RsR b c t.val (t.val + 1 - 6) ∗ owesL c l) -∗ runs c p Q) -∗ runs c (waitSend (rsOf b) ⟨t.val - 6, by omega⟩ p) Q) := by
  have ht := t.isLt
  unfold RsR
  rw [show t.val + 1 - 6 = t.val - 6 + 1 by omega]
  iintro ⟨#HR, ⟨Hr, Hs, Hc, Hst, Hrest⟩, HO⟩ Hk
  iapply (wp_waitSend X W κ b c ⟨t.val - 6, _⟩ (s := min (t.val + 2) 30) (by show t.val - 6 < _; omega) (by show _ ≤ t.val - 6 + 8; omega) hl) $$ [Hs Hst HO]
  · isplitr; · iexact HR
    isplitr [HO]; swap; · iexact HO
    isplitl [Hs]; · iexact Hs
    iexact Hst
  iintro ⟨⟨Hs, Hst⟩, HO⟩
  iapply Hk
  isplitr [HO]; swap; · iexact HO
  isplitl [Hr]; · iexact Hr
  isplitl [Hs]; · iexact Hs
  isplitl [Hc]; · iexact Hc
  isplitl [Hst]; · iexact Hst
  iexact Hrest

/-- Giving a credit back, in the state of a side. -/
theorem wp_rsGive (t : Fin 30) (h : t.val < 22) (b : Bool) (w : ℕ) {l : List Due} {p : Code F} {Q : PUnit → sProp 𝕄} :
    iprop(recs (sent X W) κ ∗ (RsR b c (t.val + 1) w ∗ landB (false, b) c t.val ∗ hold (landB (false, b) c) 22 t.val ∗ Giv (false, b) c t.val) ∗ owesL c (.cred (false, b) t.val :: l))
      ⊢ iprop((iprop(RsAt c (t.val + 1) w b ∗ owesL c l) -∗ runs c p Q) -∗ runs c (giveCredit (creditA (false, b)) (nbr (!b) c) (slotOf t) p) Q) := by
  unfold RsAt RsR
  rw [hold_none (Φ := landB (false, b) c) (show t.val ≤ 22 by omega), hold_none (Φ := landB (false, b) c) (show t.val + 1 ≤ 22 by omega)]
  iintro ⟨#HR, ⟨⟨Hr, Hrest⟩, Hl, -, Hg⟩, HO⟩ Hk
  iapply (wp_Give (sent X W) κ (false, b) c t.val h (Nat.lt_succ_self _)) $$ [Hr Hl Hg HO]
  · isplitr; · iexact HR
    isplitl [Hg]; · iexact Hg
    isplitl [Hr]; · iexact Hr
    isplitl [Hl]; · iexact Hl
    iexact HO
  iintro ⟨Hg, Hr, HO⟩
  iapply Hk
  isplitr [HO]; swap; · iexact HO
  isplitl [Hr Hrest]
  · isplitl [Hr]; · iexact Hr
    iexact Hrest
  isplitr; · iempintro
  iexact Hg

/-- Keeping a landing slot nobody fills again. -/
theorem rsKeep (t : ℕ) (h : ¬ t < 22) (b : Bool) (w : ℕ) :
    iprop(RsR b c (t + 1) w ∗ landB (false, b) c t ∗ hold (landB (false, b) c) 22 t ∗ Giv (false, b) c t) ⊢ (RsAt c (t + 1) w b : sProp 𝕄) := by
  unfold RsAt Giv
  rw [hold_put (landB (false, b) c) (show 22 ≤ t by omega), hold_none (Φ := givTok (false, b) c) (show 22 ≤ t by omega),
    hold_none (Φ := givTok (false, b) c) (show 22 ≤ t + 1 by omega)]
  iintro ⟨Hr, Hl, Hls, -⟩
  isplitl [Hr]; · iexact Hr
  isplitl [Hl Hls]
  · isplitl [Hl]; · iexact Hl
    iexact Hls
  iempintro

/-- A step of the reduce-scatter after its waits. -/
theorem wp_rsRest (t : Fin 30) {p : Code F} {Q : PUnit → sProp 𝕄} :
    iprop(recs (sent X W) κ ∗ both (RsAt c t.val (t.val + 1 - 6)) ∗ outSt out c (outT X W c fun _ => t.val - 28) ∗ owesL c (rsFrom t.val))
      ⊢ iprop((RsInv X W out c (t.val + 1) -∗ runs c p Q)
          -∗ runs c (rsSide (rsOf true) (agOf true) true out c t <| rsSide (rsOf false) (agOf false) false out c t <|
            if t.val < 22 then giveCredit (creditA (false, true)) (nbr false c) (slotOf t) <| giveCredit (creditA (false, false)) (nbr true c) (slotOf t) p else p) Q) := by
  have ht := t.isLt
  have hl := above_rsFrom t
  have hn : Function.update (Function.update (fun _ : Bool => t.val - 28) true (t.val + 1 - 28)) false (t.val + 1 - 28) = fun _ => t.val + 1 - 28 := by
    funext b; cases b <;> rfl
  rw [show rsFrom t.val = rsSend true t.val :: rsSend false t.val :: ((if t.val < 22 then [.cred (false, true) t.val, .cred (false, false) t.val] else []) ++ rsFrom (t.val + 1))
    from duesFrom_step rsDues t.isLt _] at hl ⊢
  unfold RsInv both
  rw [← hn]
  conv_lhs => unfold RsAt
  iintro ⟨#HR, ⟨⟨Ha, Hla, Hga⟩, ⟨Hb, Hlb, Hgb⟩⟩, Hout, HO⟩ Hk
  iapply (wp_rsSide X W κ out true c t (fun _ => t.val - 28) rfl (w := t.val + 1 - 6) (by omega) (by omega) hl) $$ [Ha Hout HO]
  · isplitr; · iexact HR
    isplitl [Ha]; · iexact Ha
    isplitl [Hout]; · iexact Hout
    iexact HO
  iintro ⟨Ha, Hva, Hout, HO⟩
  iapply (wp_rsSide X W κ out false c t (Function.update (fun _ => t.val - 28) true (t.val + 1 - 28)) rfl (w := t.val + 1 - 6) (by omega) (by omega) (above_tail hl)) $$ [Hb Hout HO]
  · isplitr; · iexact HR
    isplitl [Hb]; · iexact Hb
    isplitl [Hout]; · iexact Hout
    iexact HO
  iintro ⟨Hb, Hvb, Hout, HO⟩
  by_cases h : t.val < 22
  · rw [if_pos h, if_pos h]
    iapply (wp_rsGive X W κ c t h true (t.val + 1 - 6)) $$ [Ha Hva Hla Hga HO]
    · isplitr; · iexact HR
      isplitr [HO]; swap; · iexact HO
      isplitl [Ha]; · iexact Ha
      isplitl [Hva]; · iexact Hva
      isplitl [Hla]; · iexact Hla
      iexact Hga
    iintro ⟨Ha, HO⟩
    iapply (wp_rsGive X W κ c t h false (t.val + 1 - 6)) $$ [Hb Hvb Hlb Hgb HO]
    · isplitr; · iexact HR
      isplitr [HO]; swap; · iexact HO
      isplitl [Hb]; · iexact Hb
      isplitl [Hvb]; · iexact Hvb
      isplitl [Hlb]; · iexact Hlb
      iexact Hgb
    iintro ⟨Hb, HO⟩
    iapply Hk
    isplitl [Ha Hb]
    · isplitl [Ha]; · iexact Ha
      iexact Hb
    isplitl [Hout]; · iexact Hout
    iexact HO
  · rw [if_neg h, if_neg h]
    iapply Hk
    isplitl [Ha Hva Hla Hga Hb Hvb Hlb Hgb]
    · isplitl [Ha Hva Hla Hga]
      · iapply (rsKeep c t.val h true (t.val + 1 - 6))
        isplitl [Ha]; · iexact Ha
        isplitl [Hva]; · iexact Hva
        isplitl [Hla]; · iexact Hla
        iexact Hga
      iapply (rsKeep c t.val h false (t.val + 1 - 6))
      isplitl [Hb]; · iexact Hb
      isplitl [Hvb]; · iexact Hvb
      isplitl [Hlb]; · iexact Hlb
      iexact Hgb
    isplitl [Hout]; · iexact Hout
    iexact HO

theorem wp_rsStep (t : Fin 30) {p : Code F} {Q : PUnit → sProp 𝕄} :
    iprop(recs (sent X W) κ ∗ RsInv X W out c t.val)
      ⊢ iprop((RsInv X W out c (t.val + 1) -∗ runs c p Q) -∗ runs c (rsStep (rsOf true) (rsOf false) (agOf true) (agOf false) out c t p) Q) := by
  have ht := t.isLt
  have hl : above 0 (rsFrom t.val) = true := above_mono (above_rsFrom t) (Nat.zero_le _)
  unfold rsStep
  by_cases h : 6 ≤ t.val
  · simp only [dif_pos h]
    conv_lhs => unfold RsInv both RsAt
    iintro ⟨#HR, ⟨⟨⟨Ha, Hra⟩, ⟨Hb, Hrb⟩⟩, Hout, HO⟩⟩ Hk
    iapply (wp_rsWait X W κ c t h true hl) $$ [Ha HO]
    · isplitr; · iexact HR
      isplitl [Ha]; · iexact Ha
      iexact HO
    iintro ⟨Ha, HO⟩
    iapply (wp_rsWait X W κ c t h false hl) $$ [Hb HO]
    · isplitr; · iexact HR
      isplitl [Hb]; · iexact Hb
      iexact HO
    iintro ⟨Hb, HO⟩
    iapply (wp_rsRest X W κ out c t) $$ [Ha Hra Hb Hrb Hout HO]
    · isplitr; · iexact HR
      isplitl [Ha Hra Hb Hrb]
      · unfold both RsAt
        isplitl [Ha Hra]
        · isplitl [Ha]; · iexact Ha
          iexact Hra
        isplitl [Hb]; · iexact Hb
        iexact Hrb
      isplitl [Hout]; · iexact Hout
      iexact HO
    iexact Hk
  · simp only [dif_neg h]
    have := wp_rsRest X W κ out c t (p := p) (Q := Q)
    rw [show t.val + 1 - 6 = t.val - 6 by omega] at this
    exact this

/-! ## The all-gather -/

def AgAt (t : ℕ) (b : Bool) : sProp 𝕄 :=
  iprop(AgR b c t t ∗ hold (seedB c b) 0 (min t 2) ∗ hold (landB (true, b) c) 22 (t - 2) ∗ Giv (true, b) c (t - 2))

def AgInv (t : ℕ) : sProp 𝕄 := iprop(both (AgAt c t) ∗ outSt out c (outT X W c fun _ => t + 2) ∗ owesL c (agFrom t))

/-- A side once the source of its copy `t` is back. -/
def AgMid (t : ℕ) (m : Memref sig .tc .vmem S128x1024 .bf16) (b : Bool) : sProp 𝕄 :=
  iprop(AgR b c (t + 1) (t + 1) ∗ anyB m c ∗ hold (seedB c b) 0 (min t 2) ∗ hold (landB (true, b) c) 22 (t - 2) ∗ Giv (true, b) c (t - 2))

/-- The wait for copy `t` to have left its source. -/
theorem wp_agWait (t : Fin 30) (b : Bool) {l : List Due} (hl : above 0 l = true) {p : Code F} {Q : PUnit → sProp 𝕄} :
    iprop(recs (sent X W) κ ∗ AgR b c (t.val + 1) t.val ∗ owesL c l)
      ⊢ iprop((iprop(AgR b c (t.val + 1) (t.val + 1) ∗ anyB (srcM (true, b) t) c ∗ owesL c l) -∗ runs c p Q) -∗ runs c (waitSendAg (agOf b) t p) Q) := by
  have ht := t.isLt
  unfold AgR
  iintro ⟨#HR, ⟨Hr, Hs, Hrest⟩, HO⟩ Hk
  iapply (wp_waitSendAg X W κ b c t (s := min (t.val + 1 + 2) 30) (by omega) hl) $$ [Hs HO]
  · isplitr; · iexact HR
    isplitl [Hs]; · iexact Hs
    iexact HO
  iintro ⟨Hs, Hv, HO⟩
  iapply Hk
  isplitl [Hr Hs Hrest]
  · isplitl [Hr]; · iexact Hr
    isplitl [Hs]; · iexact Hs
    iexact Hrest
  isplitl [Hv]; · iexact Hv
  iexact HO

/-- Giving a credit back, in the state of a side. -/
theorem wp_agGive (t : Fin 30) (h : 2 ≤ t.val) (h' : t.val < 24) (b : Bool) {l : List Due} {p : Code F} {Q : PUnit → sProp 𝕄} :
    iprop(recs (sent X W) κ ∗ AgMid c t.val (srcM (true, b) t) b ∗ owesL c (.cred (true, b) (t.val - 2) :: l))
      ⊢ iprop((iprop(AgAt c (t.val + 1) b ∗ owesL c l) -∗ runs c p Q) -∗ runs c (giveCredit (creditA (true, b)) (nbr (!b) c) (slotOf ⟨t.val - 2, by omega⟩) p) Q) := by
  unfold AgMid AgAt AgR
  rw [hold_none (Φ := landB (true, b) c) (show t.val - 2 ≤ 22 by omega), hold_none (Φ := landB (true, b) c) (show t.val + 1 - 2 ≤ 22 by omega),
    show min t.val 2 = 2 by omega, show min (t.val + 1) 2 = 2 by omega, show t.val + 1 - 2 = t.val - 2 + 1 by omega,
    show srcM (true, b) t = slot (landM (true, b)) (slotN (t.val - 2)) from if_pos h]
  iintro ⟨#HR, ⟨⟨Hr, Hrest⟩, Hl, Hsd, -, Hg⟩, HO⟩ Hk
  iapply (wp_Give (sent X W) κ (true, b) c (t.val - 2) (by omega) (r := t.val + 1) (by omega)) $$ [Hr Hl Hg HO]
  · isplitr; · iexact HR
    isplitl [Hg]; · iexact Hg
    isplitl [Hr]; · iexact Hr
    isplitl [Hl]; · unfold landB; iexact Hl
    iexact HO
  iintro ⟨Hg, Hr, HO⟩
  iapply Hk
  isplitr [HO]; swap; · iexact HO
  isplitl [Hr Hrest]
  · isplitl [Hr]; · iexact Hr
    iexact Hrest
  isplitl [Hsd]; · iexact Hsd
  isplitr; · iempintro
  iexact Hg

/-- Keeping the source where no credit is given for it: a seed, or a landing slot nobody fills again. -/
theorem agKeep (t : Fin 30) (h : ¬ (2 ≤ t.val ∧ t.val < 24)) (b : Bool) : AgMid c t.val (srcM (true, b) t) b ⊢ (AgAt c (t.val + 1) b : sProp 𝕄) := by
  unfold AgMid AgAt
  by_cases h2 : 2 ≤ t.val
  · unfold Giv
    rw [show srcM (true, b) t = slot (landM (true, b)) (slotN (t.val - 2)) from if_pos h2,
      show t.val + 1 - 2 = t.val - 2 + 1 by omega, hold_put (landB (true, b) c) (show 22 ≤ t.val - 2 by omega),
      show (landB (true, b) c (t.val - 2) : sProp 𝕄) = anyB (slot (landM (true, b)) (slotN (t.val - 2))) c from rfl,
      hold_none (Φ := givTok (true, b) c) (show 22 ≤ t.val - 2 by omega), hold_none (Φ := givTok (true, b) c) (show 22 ≤ t.val - 2 + 1 by omega),
      show min t.val 2 = 2 by omega, show min (t.val + 1) 2 = 2 by omega]
    iintro ⟨Hr, Hv, Hs, Hl, -⟩
    isplitl [Hr]; · iexact Hr
    isplitl [Hs]; · iexact Hs
    isplitl [Hv Hl]
    · isplitl [Hv]; · iexact Hv
      iexact Hl
    iempintro
  · rw [show srcM (true, b) t = seed (seedM b) (halfOf t) from if_neg h2, show anyB (seed (seedM b) (halfOf t)) c = seedB c b t.val from rfl,
      show t.val + 1 - 2 = 0 by omega, show t.val - 2 = 0 by omega, show min t.val 2 = t.val by omega, show min (t.val + 1) 2 = t.val + 1 by omega,
      hold_put (seedB c b) (Nat.zero_le t.val)]
    iintro ⟨Hr, Hv, Hs, Hl, Hg⟩
    isplitl [Hr]; · iexact Hr
    isplitl [Hv Hs]
    · isplitl [Hv]; · iexact Hv
      iexact Hs
    isplitl [Hl]; · iexact Hl
    iexact Hg

theorem agFrom_step (t : Fin 30) :
    agFrom t.val = fwdDue true t.val (fwdDue false t.val
      ((if 2 ≤ t.val ∧ t.val < 24 then [.cred (true, true) (t.val - 2), .cred (true, false) (t.val - 2)] else []) ++ agFrom (t.val + 1))) := by
  refine (duesFrom_step agDues t.isLt []).trans ?_
  unfold agDues fwdDue
  by_cases h : t.val < 28
  · rw [if_pos h, if_pos h, if_pos h]; rfl
  · rw [if_neg h, if_neg h, if_neg h]; rfl

theorem above_fwd {i : ℕ} {b : Bool} {t : ℕ} {l : List Due} (h : above i (fwdDue b t l) = true) : above i l = true := by
  unfold fwdDue at h
  split at h
  · exact above_tail h
  · exact h

theorem wp_agStep (t : Fin 30) {p : Code F} {Q : PUnit → sProp 𝕄} :
    iprop(recs (sent X W) κ ∗ AgInv X W out c t.val)
      ⊢ iprop((AgInv X W out c (t.val + 1) -∗ runs c p Q) -∗ runs c (agStep (agOf true) (agOf false) out c t p) Q) := by
  have ht := t.isLt
  have hl := above_agFrom t
  have hn : Function.update (Function.update (fun _ : Bool => t.val + 2) true (t.val + 3)) false (t.val + 3) = fun _ => t.val + 1 + 2 := by
    funext b; cases b <;> rfl
  rw [agFrom_step t] at hl
  have hl₁ := above_fwd hl
  have hl₂ : above 0 _ = true := above_mono (above_fwd hl₁) (Nat.zero_le _)
  unfold AgInv both agStep
  rw [agFrom_step t, ← hn]
  conv_lhs => unfold AgAt
  iintro ⟨#HR, ⟨⟨Ha, Hra⟩, ⟨Hb, Hrb⟩⟩, Hout, HO⟩ Hk
  iapply (wp_agSide X W κ out true c t (fun _ => t.val + 2) rfl (w := t.val) (by omega) hl) $$ [Ha Hout HO]
  · isplitr; · iexact HR
    isplitl [Ha]; · iexact Ha
    isplitl [Hout]; · iexact Hout
    iexact HO
  iintro ⟨Ha, Hout, HO⟩
  iapply (wp_agSide X W κ out false c t (Function.update (fun _ => t.val + 2) true (t.val + 3)) rfl (w := t.val) (by omega) hl₁) $$ [Hb Hout HO]
  · isplitr; · iexact HR
    isplitl [Hb]; · iexact Hb
    isplitl [Hout]; · iexact Hout
    iexact HO
  iintro ⟨Hb, Hout, HO⟩
  iapply (wp_agWait X W κ c t true hl₂) $$ [Ha HO]
  · isplitr; · iexact HR
    isplitl [Ha]; · iexact Ha
    iexact HO
  iintro ⟨Ha, Hva, HO⟩
  iapply (wp_agWait X W κ c t false hl₂) $$ [Hb HO]
  · isplitr; · iexact HR
    isplitl [Hb]; · iexact Hb
    iexact HO
  iintro ⟨Hb, Hvb, HO⟩
  by_cases h : 2 ≤ t.val ∧ t.val < 24
  · rw [if_pos h, dif_pos h]
    iapply (wp_agGive X W κ c t h.1 h.2 true) $$ [Ha Hva Hra HO]
    · isplitr; · iexact HR
      isplitr [HO]; swap; · iexact HO
      unfold AgMid
      isplitl [Ha]; · iexact Ha
      isplitl [Hva]; · iexact Hva
      iexact Hra
    iintro ⟨Ha, HO⟩
    iapply (wp_agGive X W κ c t h.1 h.2 false) $$ [Hb Hvb Hrb HO]
    · isplitr; · iexact HR
      isplitr [HO]; swap; · iexact HO
      unfold AgMid
      isplitl [Hb]; · iexact Hb
      isplitl [Hvb]; · iexact Hvb
      iexact Hrb
    iintro ⟨Hb, HO⟩
    iapply Hk
    isplitl [Ha Hb]
    · isplitl [Ha]; · iexact Ha
      iexact Hb
    isplitl [Hout]; · iexact Hout
    iexact HO
  · rw [if_neg h, dif_neg h]
    iapply Hk
    isplitl [Ha Hva Hra Hb Hvb Hrb]
    · isplitl [Ha Hva Hra]
      · iapply (agKeep c t h true)
        unfold AgMid
        isplitl [Ha]; · iexact Ha
        isplitl [Hva]; · iexact Hva
        iexact Hra
      iapply (agKeep c t h false)
      unfold AgMid
      isplitl [Hb]; · iexact Hb
      isplitl [Hvb]; · iexact Hvb
      iexact Hrb
    isplitl [Hout]; · iexact Hout
    iexact HO

/-! ## The last waits -/

def LastAt (w : ℕ) (b : Bool) : sProp 𝕄 := iprop(Snd (false, b) c 30 w ∗ hold (stageB c b) 30 (w + 8))

def LastInv (w : ℕ) : sProp 𝕄 := iprop(both (LastAt c w) ∗ owesL c [])

theorem wp_lastStep (t : Fin 30) (h : 24 ≤ t.val) {p : Code F} {Q : PUnit → sProp 𝕄} :
    iprop(recs (sent X W) κ ∗ LastInv c t.val) ⊢ iprop((LastInv c (t.val + 1) -∗ runs c p Q) -∗ runs c (lastStep (rsOf true) (rsOf false) t p) Q) := by
  have ht := t.isLt
  unfold LastInv both LastAt lastStep
  iintro ⟨#HR, ⟨Ha, Hb⟩, HO⟩ Hk
  iapply (wp_waitSend X W κ true c t ht (by omega) (l := []) rfl) $$ [Ha HO]
  · isplitr; · iexact HR
    isplitl [Ha]; · iexact Ha
    iexact HO
  iintro ⟨Ha, HO⟩
  iapply (wp_waitSend X W κ false c t ht (by omega) (l := []) rfl) $$ [Hb HO]
  · isplitr; · iexact HR
    isplitl [Hb]; · iexact Hb
    iexact HO
  iintro ⟨Hb, HO⟩
  iapply Hk
  isplitl [Ha Hb]
  · isplitl [Ha]; · iexact Ha
    iexact Hb
  iexact HO

/-! ## The handshake -/

/-- Telling neighbour `b` that its copies may come: it gets our landing slots of the channels it fills. -/
theorem wp_hello (b : Bool) {l : List Due} {m : ℕ} (hm : m = 1) {p : PUnit → Code F} {Q : PUnit → sProp 𝕄} :
    iprop(recs (sent X W) κ ∗ dutyTok ER (barC (nbr b c)) 0 (!b) ∗ landAll (!b) c ∗ owesL c (.bar b :: l))
      ⊢ iprop((owesL c l -∗ runs c (p ⟨⟩) Q) -∗ runs c (.op (.semSignal (Dev.tc (nbr b c)) barSem m) p) Q) := by
  subst hm
  unfold owesL
  iintro ⟨#HR, Ht, Hv, ⟨%V, HO⟩⟩ Hk
  iapply (Rounds.wp_signal 𝒱₀ ER (ringRd (sent X W)) (c : Thread nD τ) none (dst := (nbr b c : Thread nD τ)) (κ := κ (nbr b c, none))
      (r := 0) (d := !b) (by rw [show (((nbr b c : Dev nD) : Thread nD τ), SemLoc.reg barSem) = kcell (nbr b c, none) from rfl, duties_kcell]; exact Finset.mem_univ _)
      (amount_kcell (sent X W) (nbr b c) none 0 (!b)) (dueIx (.bar b)) (owed c l) (owed_cons c (.bar b) l) (W := V))
    $$ [HO Ht Hv]
  · isplitr; · iapply (recs_inv (sent X W) κ (nbr b c) none); iexact HR
    isplitl [HO]; · iexact HO
    isplitl [Ht]; · iexact Ht
    isplitl [Hv]
    · iapply (Entails.of_eq (payload_kcell (sent X W) (nbr b c) none 0 (!b)).symm)
      dsimp only [kpay]
      rw [nbr_nbr]
      iexact Hv
    iapply (recs_reached (sent X W) κ (nbr b c) none); iexact HR
  iintro HO
  iapply Hk
  iexists V; iexact HO

/-- A persistent record used at every member of a family. -/
theorem bigSep_along {I : Type} {R : sProp 𝕄} [BI.Persistent R] {s : Finset I} {Φ Ψ : I → sProp 𝕄} (h : ∀ i ∈ s, iprop(R ∗ Φ i) ⊢ Ψ i) :
    iprop(R ∗ bigSep s Φ) ⊢ bigSep s Ψ := by
  classical
  induction s using Finset.induction_on with
  | empty =>
    rw [bigSep_empty, bigSep_empty]
    iintro ⟨-, H⟩
    iexact H
  | insert i s hi ih =>
    rw [star_insert hi, star_insert hi]
    iintro ⟨#HR, Hi, Hs⟩
    isplitl [Hi]
    · iapply (h i (Finset.mem_insert_self i s))
      isplitr; · iexact HR
      iexact Hi
    iapply (ih fun j hj => h j (Finset.mem_insert_of_mem hj))
    isplitr; · iexact HR
    iexact Hs

/-- The neighbour's landing slots, in the form the credits keep them. -/
theorem landN_intro (x : Chan) : iprop(recs (sent X W) κ ∗ bigSep (Finset.Ico 0 8) fun u => anyB (slot (landM x) (slotN u)) (nbr x.2 c)) ⊢ hold (landN x c) 0 8 := by
  unfold hold
  refine bigSep_along fun u hu => ?_
  have h0 : u / 8 = 0 := Nat.div_eq_of_lt (Finset.mem_Ico.mp hu).2
  unfold landN
  rw [h0]
  iintro ⟨#HR, Hv⟩
  isplitl [Hv]; · iexact Hv
  iapply (recs_reached (sent X W) κ c (some (x, .inr (.inr (slotN u))))); iexact HR

theorem star_bool (Φ : Bool → sProp 𝕄) : bigSep Finset.univ Φ = both Φ := bigSep_univ_eq_bigSepL [true, false] (by decide) (by decide) Φ

theorem lands (b : Bool) : iprop(recs (sent X W) κ ∗ landAll b (nbr b c)) ⊢ iprop(hold (landN (true, b) c) 0 8 ∗ hold (landN (false, b) c) 0 8) := by
  unfold landAll
  rw [star_bool]
  unfold both
  iintro ⟨#HR, Ha, Hb⟩
  ihave Ha := (landN_intro X W κ c (true, b)) $$ [Ha]
  · isplitr; · iexact HR
    iexact Ha
  ihave Hb := (landN_intro X W κ c (false, b)) $$ [Hb]
  · isplitr; · iexact HR
    iexact Hb
  isplitl [Ha]; · iexact Ha
  iexact Hb

/-- Both neighbours have said so: their landing slots are ours to fill, and the barrier's counter is back. -/
theorem wp_ready {l : List Due} (hl : above 1 l = true) {n : ℕ} (hn : n = 2) {p : PUnit → Code F} {Q : PUnit → sProp 𝕄} :
    iprop(recs (sent X W) κ ∗ atPos ER (barC c) 0 ∅ 0 ∗ cred (tallyAt (barC c) 1 2) ∗ owesL c l)
      ⊢ iprop((iprop(semVal (barC c) 0 ∗ both (fun b => iprop(hold (landN (true, b) c) 0 8 ∗ hold (landN (false, b) c) 0 8)) ∗ owesL c l) -∗ runs c (p ⟨⟩) Q)
          -∗ runs c (.op (.semWait barSem n) p) Q) := by
  subst hn
  unfold owesL
  iintro ⟨#HR, Hat, Hc, ⟨%V, HO⟩⟩ Hk
  iapply (Rounds.wp_wait_rest_token 𝒱₀ ER (ringRd (sent X W)) (c : Thread nD τ) none (κ := κ (c, none)) (sm := .reg barSem)
      (wpE_semWait_eq 𝒱₀ (c : Thread nD τ) none Set.univ) (Set.mem_univ (κ (c, none))) 1 (O := owed c l) (W := V) (R := 0) (m := 0) (T := ∅)
      ((Nat.zero_add 2).trans (expect_bar (sent X W) c).symm)) $$ [Hc HO Hat]
  · isplitr; · iapply (recs_inv (sent X W) κ c none); iexact HR
    isplitl [Hc]; · iexact Hc
    isplitl [HO]; · iexact HO
    isplitr; · iapply (recs_mayWait (sent X W) κ (by decide) c (.reg barSem) hl); iexact HR
    iexact Hat
  iintro ⟨HO, Hat, -, Hp⟩
  ihave Hp := (Entails.of_eq (rest_bar (sent X W) c)) $$ Hp
  ihave Hp := (Entails.of_eq (star_bool fun d => landAll d (nbr d c))) $$ Hp
  unfold both
  icases Hp with ⟨Ha, Hb⟩
  imod (close1 (sent X W) κ c none (r := 1) (fun s hs => if_neg (by omega))) $$ [Hat] with Hs
  · isplitr; · iexact HR
    iexact Hat
  iapply Hk
  isplitl [Hs]; · iexact Hs
  isplitl [Ha Hb]
  · isplitl [Ha]
    · iapply (lands X W κ c true)
      isplitr; · iexact HR
      iexact Ha
    iapply (lands X W κ c false)
    isplitr; · iexact HR
    iexact Hb
  iexists _; iexact HO

/-! ## The whole body -/

/-- What a channel starts with. -/
def ChanPre (x : Chan) : sProp 𝕄 := iprop(Rcv x c 0 ∗ Snd x c 0 0 ∗ (hold (crdTok x c) 0 22 ∗ hold (crdPos x c) 0 8) ∗ Giv x c 0)

/-- What a direction starts with. -/
def SidePre (b : Bool) : sProp 𝕄 := iprop(ChanPre c (false, b) ∗ ChanPre c (true, b) ∗ hold (stageB c b) 0 8 ∗ hold (seedB c b) 0 2)

/-- What a channel ends with. -/
def ChanPost (x : Chan) : sProp 𝕄 := iprop(Rcv x c 30 ∗ Snd x c 30 30 ∗ Crd x c 30)

/-- What a direction ends with. -/
def SidePost (b : Bool) : sProp 𝕄 :=
  iprop(ChanPost c (false, b) ∗ ChanPost c (true, b) ∗ hold (stageB c b) 30 38 ∗ hold (seedB c b) 0 2
    ∗ hold (landB (false, b) c) 22 30 ∗ hold (landB (true, b) c) 22 28 ∗ hold (landB (true, b) c) 28 30)

/-- What a device needs for the handshake. -/
def HandPre : sProp 𝕄 :=
  iprop(both (fun b => dutyTok ER (barC (nbr b c)) 0 (!b)) ∗ both (fun b => landAll b c) ∗ atPos ER (barC c) 0 ∅ 0 ∗ cred (tallyAt (barC c) 1 2))

/-- A direction after the handshake, split into what the first sends use and the rest. -/
def SideRest (b : Bool) : sProp 𝕄 :=
  iprop(Rcv (false, b) c 0 ∗ Giv (false, b) c 0 ∗ (Rcv (true, b) c 0 ∗ Giv (true, b) c 0) ∗ Snd (true, b) c 0 0 ∗ Crd (true, b) c 0 ∗ hold (seedB c b) 0 2)

theorem side_open (b : Bool) :
    iprop(SidePre c b ∗ hold (landN (true, b) c) 0 8 ∗ hold (landN (false, b) c) 0 8) ⊢ (iprop(FirstAt c 0 b ∗ SideRest c b) : sProp 𝕄) := by
  unfold SidePre ChanPre FirstAt SideRest Crd
  iintro ⟨⟨⟨Hr, Hs, ⟨Hct, Hcp⟩, Hg⟩, ⟨Hr', Hs', ⟨Hct', Hcp'⟩, Hg'⟩, Hst, Hsd⟩, Hl', Hl⟩
  isplitl [Hs Hct Hcp Hl Hst]
  · isplitl [Hs]; · iexact Hs
    isplitl [Hct Hcp Hl]
    · isplitl [Hct]; · iexact Hct
      isplitl [Hcp]; · iexact Hcp
      iexact Hl
    iexact Hst
  isplitl [Hr]; · iexact Hr
  isplitl [Hg]; · iexact Hg
  isplitl [Hr' Hg']
  · isplitl [Hr']; · iexact Hr'
    iexact Hg'
  isplitl [Hs']; · iexact Hs'
  isplitl [Hct' Hcp' Hl']
  · isplitl [Hct']; · iexact Hct'
    isplitl [Hcp']; · iexact Hcp'
    iexact Hl'
  iexact Hsd

/-- What the all-gather brings of a direction while the reduce-scatter runs. -/
def AgIdle (b : Bool) : sProp 𝕄 := iprop(Rcv (true, b) c 0 ∗ Giv (true, b) c 0)

theorem side_rs (b : Bool) : iprop(FirstAt c 2 b ∗ SideRest c b) ⊢ (iprop(RsAt c 0 0 b ∗ AgIdle c b) : sProp 𝕄) := by
  unfold FirstAt SideRest RsAt RsR AgIdle
  rw [hold_none (Φ := landB (false, b) c) (show 0 ≤ 22 by omega)]
  iintro ⟨⟨Hs, Hc, Hst⟩, Hr, Hg, Hi, Hs', Hc', Hsd⟩
  isplitr [Hi]; swap; · iexact Hi
  isplitr [Hg]
  · isplitl [Hr]; · iexact Hr
    isplitl [Hs]; · iexact Hs
    isplitl [Hc]; · iexact Hc
    isplitl [Hst]; · iexact Hst
    isplitl [Hs']; · iexact Hs'
    isplitl [Hc']; · iexact Hc'
    iexact Hsd
  isplitr; · iempintro
  iexact Hg

/-- What a direction keeps of the reduce-scatter while the all-gather runs, besides what the last waits use. -/
def RsKept (b : Bool) : sProp 𝕄 := iprop(Rcv (false, b) c 30 ∗ Crd (false, b) c 30 ∗ hold (landB (false, b) c) 22 30)

theorem side_ag (b : Bool) : iprop(RsAt c 30 24 b ∗ AgIdle c b) ⊢ (iprop(AgAt c 0 b ∗ LastAt c 24 b ∗ RsKept c b) : sProp 𝕄) := by
  unfold RsAt RsR AgIdle AgAt AgR LastAt RsKept Giv
  rw [hold_none (Φ := landB (true, b) c) (show 0 ≤ 28 by omega), show (0 : ℕ) - 2 = 0 from rfl, hold_none (Φ := landB (true, b) c) (show 0 ≤ 22 by omega),
    show min 0 2 = 0 from rfl, hold_none (Φ := seedB c b) (le_refl 0), show min (0 + 2) 30 = 2 from rfl, show min (30 + 2) 30 = 30 from rfl, show 30 - 28 = 2 from rfl]
  iintro ⟨⟨⟨Hr, Hs, Hc, Hst, Hs', Hc', -⟩, Hl, -⟩, Hr', Hg'⟩
  isplitl [Hr' Hs' Hc' Hg']
  · isplitl [Hr' Hs' Hc']
    · isplitl [Hr']; · iexact Hr'
      isplitl [Hs']; · iexact Hs'
      isplitl [Hc']; · iexact Hc'
      iempintro
    isplitr; · iempintro
    isplitr; · iempintro
    iexact Hg'
  isplitl [Hs Hst]
  · isplitl [Hs]; · iexact Hs
    iexact Hst
  isplitl [Hr]; · iexact Hr
  isplitl [Hc]; · iexact Hc
  iexact Hl

theorem side_end (b : Bool) : iprop(AgAt c 30 b ∗ LastAt c 30 b ∗ RsKept c b) ⊢ (SidePost c b : sProp 𝕄) := by
  unfold AgAt AgR LastAt RsKept SidePost ChanPost
  rw [show min 30 2 = 2 from rfl, show (30 : ℕ) - 2 = 28 from rfl, show min (30 + 2) 30 = 30 from rfl]
  iintro ⟨⟨⟨Hr', Hs', Hc', Hl1⟩, Hsd, Hl2, -⟩, ⟨Hs, Hst⟩, Hr, Hc, Hl⟩
  isplitl [Hr Hs Hc]
  · isplitl [Hr]; · iexact Hr
    isplitl [Hs]; · iexact Hs
    iexact Hc
  isplitl [Hr' Hs' Hc']
  · isplitl [Hr']; · iexact Hr'
    isplitl [Hs']; · iexact Hs'
    iexact Hc'
  isplitl [Hst]; · iexact Hst
  isplitl [Hsd]; · iexact Hsd
  isplitl [Hl]; · iexact Hl
  isplitl [Hl2]; · iexact Hl2
  iexact Hl1

/-- A step of a family on both sides. -/
theorem both_step {Φ Ψ : Bool → sProp 𝕄} {Θ : Bool → sProp 𝕄} (h : ∀ b, iprop(Φ b ∗ Ψ b) ⊢ Θ b) : iprop(both Φ ∗ both Ψ) ⊢ both Θ := by
  unfold both
  iintro ⟨⟨Ha, Hb⟩, Hc, Hd⟩
  isplitl [Ha Hc]
  · iapply (h true)
    isplitl [Ha]; · iexact Ha
    iexact Hc
  iapply (h false)
  isplitl [Hb]; · iexact Hb
  iexact Hd

theorem both_sep (Φ Ψ : Bool → sProp 𝕄) : both (fun b => iprop(Φ b ∗ Ψ b)) ⊢ iprop(both Φ ∗ both Ψ) := by
  unfold both
  iintro ⟨⟨Ha, Hb⟩, Hc, Hd⟩
  isplitl [Ha Hc]
  · isplitl [Ha]; · iexact Ha
    iexact Hc
  isplitl [Hb]; · iexact Hb
  iexact Hd

theorem both_join (Φ Ψ : Bool → sProp 𝕄) : iprop(both Φ ∗ both Ψ) ⊢ both (fun b => iprop(Φ b ∗ Ψ b)) := both_step fun _ => .rfl

/-- The body from the first products on. -/
theorem wp_bodyOn (x : Memref sig .tc .vmem S4096x256 .f32) (w : Memref sig .tc .vmem S256x2048 .f32) :
    iprop(recs (sent X W) κ ∗ both (SidePre c) ∗ HandPre c ∗ (inB x c (X c) ∗ inB w c (W c)) ∗ outSt out c (gemmT X W c 0) ∗ owesL c allDues)
      ⊢ runs c (bodyOn x w out (rsOf true) (rsOf false) (agOf true) (agOf false) c)
          (fun _ => iprop(both (SidePost c) ∗ semVal (barC c) 0 ∗ (inB x c (X c) ∗ inB w c (W c)) ∗ outSt out c (outT X W c fun _ => 32) ∗ owesL c [])) := by
  unfold bodyOn handshake HandPre allDues
  iintro ⟨#HR, Hside, ⟨Hd, Hl, Hat, Hc⟩, Hin, Hout, HO⟩
  ihave Hd := (show both (fun b => dutyTok ER (barC (nbr b c)) 0 (!b)) ⊢ iprop(dutyTok ER (barC (nbr true c)) 0 (!true) ∗ dutyTok ER (barC (nbr false c)) 0 (!false) : sProp 𝕄) from .rfl) $$ Hd
  icases Hd with ⟨Hda, Hdb⟩
  ihave Hl := (show both (fun b => landAll b c) ⊢ iprop(landAll (!false) c ∗ landAll (!true) c : sProp 𝕄) from .rfl) $$ Hl
  icases Hl with ⟨Hla, Hlb⟩
  iapply (wp_hello X W κ c false (by decide)) $$ [Hdb Hla HO]
  · isplitr; · iexact HR
    isplitl [Hdb]; · iexact Hdb
    isplitl [Hla]; · iexact Hla
    iexact HO
  iintro HO
  iapply (wp_hello X W κ c true (by decide)) $$ [Hda Hlb HO]
  · isplitr; · iexact HR
    isplitl [Hda]; · iexact Hda
    isplitl [Hlb]; · iexact Hlb
    iexact HO
  iintro HO
  iapply (wp_ready X W κ c above_firstFrom (by decide)) $$ [Hat Hc HO]
  · isplitr; · iexact HR
    isplitl [Hat]; · iexact Hat
    isplitl [Hc]; · iexact Hc
    iexact HO
  iintro ⟨Hbar, Hln, HO⟩
  ihave H := (both_step (F := F) (side_open c)) $$ [Hside Hln]
  · isplitl [Hside]; · iexact Hside
    iexact Hln
  ihave H := (both_sep (F := F) _ _) $$ H
  icases H with ⟨Hf, Hrest⟩
  icases Hin with ⟨Hx, Hw⟩
  iapply (wp_gemmStep out c X W x w 0) $$ [Hx Hw Hout]
  · isplitl [Hx]; · iexact Hx
    isplitl [Hw]; · iexact Hw
    iexact Hout
  iintro ⟨Hx, Hw, Hout⟩
  iapply (wp_countdown c (R := recs (sent X W) κ) (n := 1) (firstStep (rsOf true) (rsOf false) out c) (FirstInv X W out c) _ _ 2 (by decide)
    (fun j p _ => wp_firstStep X W κ out c j)) $$ [Hf Hout HO]
  · isplitr; · iexact HR
    unfold FirstInv
    isplitl [Hf]; · iexact Hf
    isplitl [Hout]; · iexact Hout
    iexact HO
  unfold FirstInv
  iintro ⟨Hf, Hout, HO⟩
  iapply (wp_countdown c (R := recs (sent X W) κ) (n := 15) (gemmStep x w out c) (fun i => iprop(inB x c (X c) ∗ inB w c (W c) ∗ outSt out c (gemmT X W c i))) _ _ 15 (by decide)
    (fun i p _ => by
      have h := wp_gemmStep out c X W x w i (p := p) (Q := (fun _ => iprop(both (SidePost c) ∗ semVal (barC c) 0 ∗ (inB x c (X c) ∗ inB w c (W c)) ∗ outSt out c (outT X W c fun _ => 32) ∗ owesL c [])))
      iintro ⟨-, H⟩
      iapply h
      iexact H)) $$ [Hx Hw Hout]
  · isplitr; · iexact HR
    isplitl [Hx]; · iexact Hx
    isplitl [Hw]; · iexact Hw
    iexact Hout
  iintro ⟨Hx, Hw, Hout⟩
  ihave Hout := (Entails.of_eq (congrArg (outSt out c) (gemmT_all X W c))) $$ Hout
  ihave H := (both_step (F := F) (side_rs c)) $$ [Hf Hrest]
  · isplitl [Hf]; · iexact Hf
    iexact Hrest
  ihave H := (both_sep (F := F) _ _) $$ H
  icases H with ⟨Hrs, Hidle⟩
  iapply (wp_countdown c (R := recs (sent X W) κ) (n := 29) (rsStep (rsOf true) (rsOf false) (agOf true) (agOf false) out c) (RsInv X W out c) _ _ 30 (by decide)
    (fun t p _ => wp_rsStep X W κ out c t)) $$ [Hrs Hout HO]
  · isplitr; · iexact HR
    unfold RsInv
    isplitl [Hrs]; · iexact Hrs
    isplitl [Hout]; · iexact Hout
    iexact HO
  unfold RsInv
  iintro ⟨Hrs, Hout, HO⟩
  ihave H := (both_step (F := F) (side_ag c)) $$ [Hrs Hidle]
  · isplitl [Hrs]; · iexact Hrs
    iexact Hidle
  ihave H := (both_sep (F := F) _ _) $$ H
  icases H with ⟨Hag, Hkept⟩
  iapply (wp_countdown c (R := recs (sent X W) κ) (n := 29) (agStep (agOf true) (agOf false) out c) (AgInv X W out c) _ _ 30 (by decide)
    (fun t p _ => wp_agStep X W κ out c t)) $$ [Hag Hout HO]
  · isplitr; · iexact HR
    unfold AgInv
    isplitl [Hag]; · iexact Hag
    isplitl [Hout]; · iexact Hout
    iexact HO
  unfold AgInv
  iintro ⟨Hag, Hout, HO⟩
  ihave H := (both_sep (F := F) _ _) $$ Hkept
  icases H with ⟨Hlast, Hkept⟩
  iapply (wp_countdown c (R := recs (sent X W) κ) (n := 29) (lastStep (rsOf true) (rsOf false)) (LastInv c) _ _ 6 (by decide)
    (fun t p ht => wp_lastStep X W κ c t (by omega))) $$ [Hlast HO]
  · isplitr; · iexact HR
    unfold LastInv
    isplitl [Hlast]; · iexact Hlast
    iexact HO
  unfold LastInv
  iintro ⟨Hlast, HO⟩
  unfold runs
  rw [wp_ret]
  imodintro
  isplitl [Hag Hlast Hkept]
  · iapply (both_step (F := F) (side_end c))
    isplitl [Hag]; · iexact Hag
    iapply (both_join (F := F) _ _)
    isplitl [Hlast]; · iexact Hlast
    iexact Hkept
  isplitl [Hbar]; · iexact Hbar
  isplitl [Hx Hw]
  · isplitl [Hx]; · iexact Hx
    iexact Hw
  isplitl [Hout]; · iexact Hout
  iexact HO

end Steps

end Cert.KernelIdeal.Ring
-- ==== Proof.Close.lean ====
/- The two ends of a device's run: its buffers cut into the slots the protocol moves and joined again, and its
   semaphores closed at zero. -/
module

public import proofs.«01_k».proof.Proof.Body
public import proofs.«01_k».proof.Proof.Gen.KernelIdeal.Launch
public import Idealize.ShloMosaic.Lib.Ring

@[expose] public section

noncomputable section

namespace Cert.KernelIdeal.Ring

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Runs of a family -/

/-- A run from zero, indexed by the finite type; -/
theorem hold_fin (Φ : ℕ → sProp 𝕄) (n : ℕ) : hold Φ 0 n = bigSep Finset.univ fun t : Fin n => Φ t.val := by
  unfold hold
  rw [show Finset.Ico 0 n = Finset.univ.map (Fin.valEmbedding (n := n)) from by
    ext i
    simp only [Finset.mem_Ico, Finset.mem_map, Finset.mem_univ, true_and, Fin.valEmbedding_apply]
    exact ⟨fun h => ⟨⟨i, h.2⟩, rfl⟩, fun ⟨t, ht⟩ => ⟨Nat.zero_le _, ht ▸ t.isLt⟩⟩]
  exact bigSep_map _

/-- a run of eight, indexed by the slot each member is in; -/
theorem hold_slots {Φ : ℕ → sProp 𝕄} {Ψ : Fin 8 → sProp 𝕄} (lo : ℕ) (h : ∀ u, lo ≤ u → u < lo + 8 → Φ u = Ψ (slotN u)) :
    hold Φ lo (lo + 8) = bigSep Finset.univ Ψ := by
  unfold hold
  rw [bigSep_congr (fun u hu => h u (Finset.mem_Ico.mp hu).1 (Finset.mem_Ico.mp hu).2)]
  rw [← bigSep_image_of_injOn (f := slotN) (s := Finset.Ico lo (lo + 8)) (fun a ha b hb e => by
    have e' : a % 8 = b % 8 := congrArg Fin.val e
    have ha' := Finset.mem_Ico.mp (Finset.mem_coe.mp ha)
    have hb' := Finset.mem_Ico.mp (Finset.mem_coe.mp hb)
    omega) Ψ]
  congr 1
  ext k
  simp only [Finset.mem_image, Finset.mem_univ, iff_true, Finset.mem_Ico]
  have := k.isLt
  exact ⟨lo + (k.val + 8 * (lo + 1) - lo) % 8, ⟨by omega, by omega⟩, Fin.ext (by show _ % 8 = _; omega)⟩

/-- two runs end to end. -/
theorem hold_append (Φ : ℕ → sProp 𝕄) {a b c : ℕ} (h₁ : a ≤ b) (h₂ : b ≤ c) : iprop(hold Φ a b ∗ hold Φ b c) = hold Φ a c := by
  unfold hold
  rw [← Finset.Ico_union_Ico_eq_Ico h₁ h₂]
  exact (bigSep_union (Finset.Ico_disjoint_Ico_consecutive a b c)).symm

/-! ## Buffers and their slots -/

/-- A buffer held whole, at any contents. -/
def wholeB {s : Shape} (m : Memref sig .tc .vmem s .bf16) (c : Dev nD) : sProp 𝕄 :=
  iprop(∃ f : Buf (Elt F) (m.view.loc (c : Thread nD τ)), (m.view.loc (c : Thread nD τ) ↦{fullShare} f))

section Slots

variable (m : Memref sig .tc .vmem S8x128x1024 .bf16) (hm : m.view.set = Finset.univ) (c : Dev nD)

theorem slots_disjoint (k k' : Fin 8) (h : k ≠ k') : Disjoint (m.view.setOn (slotRect k).set) (m.view.setOn (slotRect k').set) := by
  exact m.view.disjoint_setOn (Ring.lead_disjoint (s := S8x128x1024) 0 1 (fun k : Fin 8 => slotOff k.val) S1x128x1024.size slot_inb
    (fun b => by rw [Nat.one_mul]; rfl) rfl k k' h)

include hm in
theorem slots_cover : Finset.univ.biUnion (fun k => m.view.setOn (slotRect k).set) = Finset.univ := by
  rw [← hm, ← View.setOn_univ, ← Ring.lead_cover (s := S8x128x1024) 0 1 (fun k : Fin 8 => slotOff k.val) S1x128x1024.size slot_inb
    (fun b => by rw [Nat.one_mul]; rfl) (fun b a ha => by fin_cases a <;> first | exact absurd rfl ha | rfl) rfl
    (fun a ha => by fin_cases a <;> first | exact absurd rfl ha | rfl) rfl]
  unfold View.setOn
  rw [Finset.map_eq_image, Finset.biUnion_image]
  congr 1; funext k
  rw [Finset.map_eq_image]

include hm in
theorem slots_split : wholeB m c ⊢ (bigSep Finset.univ fun k => anyB (slot m k) c : sProp 𝕄) := by
  unfold wholeB
  iintro ⟨%f, H⟩
  ihave H' := (Entails.of_eq (Ring.pointsTo_blocks (ℓ := m.view.loc (c : Thread nD τ)) (fun k => m.view.setOn (slotRect k).set)
    (slots_disjoint m) (slots_cover m hm) f)) $$ H
  have h (k : Fin 8) : (m.view.loc (c : Thread nD τ) ↦[m.view.setOn (slotRect k).set]{fullShare} f : sProp 𝕄) ⊢ anyB (slot m k) c := by
    unfold anyB
    iintro H; iexists f; rw [slot_set]; iexact H
  have h' : (bigSep Finset.univ fun k => (m.view.loc (c : Thread nD τ) ↦[m.view.setOn (slotRect k).set]{fullShare} f) : sProp 𝕄) ⊢ bigSep Finset.univ fun k => anyB (slot m k) c :=
    bigSep_mono fun k _ => h k
  iapply h'
  iexact H'

theorem slot_part (k : Fin 8) : (anyB (slot m k) c : sProp 𝕄)
    ⊢ iprop(∃ f : Buf (Elt F) (m.view.loc (c : Thread nD τ)), (m.view.loc (c : Thread nD τ) ↦[m.view.setOn (slotRect k).set]{fullShare} f)) := by
  unfold anyB
  iintro ⟨%f, H⟩; iexists f; rw [← slot_set]; iexact H

include hm in
theorem slots_join : (bigSep Finset.univ fun k => anyB (slot m k) c : sProp 𝕄) ⊢ wholeB m c :=
  (bigSep_mono (s := Finset.univ) fun k _ => slot_part m c k).trans
    (Ring.pointsTo_blocks_join_exists (ℓ := m.view.loc (c : Thread nD τ)) (fun k => m.view.setOn (slotRect k).set)
      (slots_disjoint m) (slots_cover m hm) (fun _ => default))

end Slots

section Seeds

variable (m : Memref sig .tc .vmem S2x128x1024 .bf16) (hm : m.view.set = Finset.univ) (c : Dev nD)

theorem seeds_disjoint (k k' : Fin 2) (h : k ≠ k') : Disjoint (m.view.setOn (seedRect k).set) (m.view.setOn (seedRect k').set) := by
  exact m.view.disjoint_setOn (Ring.lead_disjoint (s := S2x128x1024) 0 1 (fun k : Fin 2 => slotOff k.val) S1x128x1024.size seed_inb
    (fun b => by rw [Nat.one_mul]; rfl) rfl k k' h)

include hm in
theorem seeds_cover : Finset.univ.biUnion (fun k => m.view.setOn (seedRect k).set) = Finset.univ := by
  rw [← hm, ← View.setOn_univ, ← Ring.lead_cover (s := S2x128x1024) 0 1 (fun k : Fin 2 => slotOff k.val) S1x128x1024.size seed_inb
    (fun b => by rw [Nat.one_mul]; rfl) (fun b a ha => by fin_cases a <;> first | exact absurd rfl ha | rfl) rfl
    (fun a ha => by fin_cases a <;> first | exact absurd rfl ha | rfl) rfl]
  unfold View.setOn
  rw [Finset.map_eq_image, Finset.biUnion_image]
  congr 1; funext k
  rw [Finset.map_eq_image]

include hm in
theorem seeds_split : wholeB m c ⊢ (bigSep Finset.univ fun k => anyB (seed m k) c : sProp 𝕄) := by
  unfold wholeB
  iintro ⟨%f, H⟩
  ihave H' := (Entails.of_eq (Ring.pointsTo_blocks (ℓ := m.view.loc (c : Thread nD τ)) (fun k => m.view.setOn (seedRect k).set)
    (seeds_disjoint m) (seeds_cover m hm) f)) $$ H
  have h (k : Fin 2) : (m.view.loc (c : Thread nD τ) ↦[m.view.setOn (seedRect k).set]{fullShare} f : sProp 𝕄) ⊢ anyB (seed m k) c := by
    unfold anyB
    iintro H; iexists f; rw [seed_set]; iexact H
  have h' : (bigSep Finset.univ fun k => (m.view.loc (c : Thread nD τ) ↦[m.view.setOn (seedRect k).set]{fullShare} f) : sProp 𝕄) ⊢ bigSep Finset.univ fun k => anyB (seed m k) c :=
    bigSep_mono fun k _ => h k
  iapply h'
  iexact H'

theorem seed_part (k : Fin 2) : (anyB (seed m k) c : sProp 𝕄)
    ⊢ iprop(∃ f : Buf (Elt F) (m.view.loc (c : Thread nD τ)), (m.view.loc (c : Thread nD τ) ↦[m.view.setOn (seedRect k).set]{fullShare} f)) := by
  unfold anyB
  iintro ⟨%f, H⟩; iexists f; rw [← seed_set]; iexact H

include hm in
theorem seeds_join : (bigSep Finset.univ fun k => anyB (seed m k) c : sProp 𝕄) ⊢ wholeB m c :=
  (bigSep_mono (s := Finset.univ) fun k _ => seed_part m c k).trans
    (Ring.pointsTo_blocks_join_exists (ℓ := m.view.loc (c : Thread nD τ)) (fun k => m.view.setOn (seedRect k).set)
      (seeds_disjoint m) (seeds_cover m hm) (fun _ => default))

end Seeds

theorem landM_set : ∀ x, (landM x).view.set = Finset.univ
  | (false, true) => View.set_whole _
  | (false, false) => View.set_whole _
  | (true, true) => View.set_whole _
  | (true, false) => View.set_whole _

theorem stageM_set : ∀ b, (stageM b).view.set = Finset.univ
  | true => View.set_whole _
  | false => View.set_whole _

theorem seedM_set : ∀ b, (seedM b).view.set = Finset.univ
  | true => View.set_whole _
  | false => View.set_whole _

/-! ## The buffers of one direction -/

/-- One direction's buffers, whole: the two landing buffers, the staging buffer, the seeds. -/
def sideBufs (c : Dev nD) (b : Bool) : sProp 𝕄 :=
  iprop(wholeB (landM (false, b)) c ∗ wholeB (landM (true, b)) c ∗ wholeB (stageM b) c ∗ wholeB (seedM b) c)

theorem land_run (x : Chan) (c : Dev nD) (lo : ℕ) : hold (landB x c) lo (lo + 8) = (bigSep Finset.univ fun k => anyB (slot (landM x) k) c : sProp 𝕄) :=
  hold_slots lo fun _ _ _ => rfl

theorem stage_run (b : Bool) (c : Dev nD) (lo : ℕ) : hold (stageB c b) lo (lo + 8) = (bigSep Finset.univ fun k => anyB (slot (stageM b) k) c : sProp 𝕄) :=
  hold_slots lo fun _ _ _ => rfl

theorem seed_run (b : Bool) (c : Dev nD) : hold (seedB c b) 0 2 = (bigSep Finset.univ fun k => anyB (seed (seedM b) k) c : sProp 𝕄) := by
  rw [hold_fin]
  exact bigSep_congr fun k _ => by
    show anyB (seed (seedM b) (halfN k.val)) c = _
    rw [show halfN k.val = k from Fin.ext (Nat.mod_eq_of_lt k.isLt)]

theorem landAll_eq (b : Bool) (c : Dev nD) : (landAll b c : sProp 𝕄) = iprop(hold (landB (true, b) c) 0 8 ∗ hold (landB (false, b) c) 0 8) := by
  unfold landAll
  rw [star_bool]; rfl

theorem bufs_split (c : Dev nD) (b : Bool) :
    sideBufs c b ⊢ (iprop(landAll b c ∗ hold (stageB c b) 0 8 ∗ hold (seedB c b) 0 2) : sProp 𝕄) := by
  rw [landAll_eq, land_run _ _ 0, land_run _ _ 0, stage_run _ _ 0, seed_run]
  unfold sideBufs
  iintro ⟨H1, H2, H3, H4⟩
  isplitl [H1 H2]
  · isplitl [H2]
    · iapply (slots_split _ (landM_set _) c); iexact H2
    · iapply (slots_split _ (landM_set _) c); iexact H1
  isplitl [H3]
  · iapply (slots_split _ (stageM_set _) c); iexact H3
  · iapply (seeds_split _ (seedM_set _) c); iexact H4

theorem bufs_join (c : Dev nD) (b : Bool) :
    iprop(hold (stageB c b) 30 38 ∗ hold (seedB c b) 0 2 ∗ hold (landB (false, b) c) 22 30 ∗ hold (landB (true, b) c) 22 28 ∗ hold (landB (true, b) c) 28 30)
      ⊢ (sideBufs c b : sProp 𝕄) := by
  rw [hold_append _ (by omega) (by omega), land_run _ _ 22, land_run _ _ 22, stage_run _ _ 30, seed_run]
  unfold sideBufs
  iintro ⟨H3, H4, H1, H2⟩
  isplitl [H1]
  · iapply (slots_join _ (landM_set _) c); iexact H1
  isplitl [H2]
  · iapply (slots_join _ (landM_set _) c); iexact H2
  isplitl [H3]
  · iapply (slots_join _ (stageM_set _) c); iexact H3
  · iapply (seeds_join _ (seedM_set _) c); iexact H4

/-- The kernel's scratch buffers are the two directions'. -/
theorem scoped_eq (c : Dev nD) :
    (Pipeline.scopedRest (Ix := ℕ) (Name := ℕ) (U := UU) (Lvl := ℕ) (Val := Elt F) spec0 c : sProp 𝕄)
      ⊢ both (sideBufs c) := by
  rw [scopedRest0_eq]
  unfold both sideBufs wholeB
  iintro ⟨H0, H1, H2, H3, H4, H5, H6, H7⟩
  isplitl [H0 H2 H4 H6]
  · isplitl [H0]; · iexact H0
    isplitl [H4]; · iexact H4
    isplitl [H2]; · iexact H2
    iexact H6
  · isplitl [H1]; · iexact H1
    isplitl [H5]; · iexact H5
    isplitl [H3]; · iexact H3
    iexact H7

theorem scoped_of (c : Dev nD) :
    both (sideBufs c) ⊢ (Pipeline.scopedRest (Ix := ℕ) (Name := ℕ) (U := UU) (Lvl := ℕ) (Val := Elt F) spec0 c : sProp 𝕄) := by
  rw [scopedRest0_eq]
  unfold both sideBufs wholeB
  iintro ⟨⟨H0, H4, H2, H6⟩, H1, H5, H3, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## The semaphores closed -/

/-- A channel's semaphores on device `c`, all at zero. -/
def chanSems (c : Dev nD) (x : Chan) : sProp 𝕄 :=
  iprop((bigSep Finset.univ fun t => semVal (sendC x c t) 0) ∗ (bigSep Finset.univ fun t => semVal (recvC x c t) 0)
    ∗ bigSep Finset.univ fun k => semVal (credC x c k) 0)

theorem ownSems_eq (c : Dev nD) :
    (Pipeline.ownSems0 (Ix := ℕ) (Name := ℕ) (U := UU) (Lvl := ℕ) (Val := Elt F) (τ := τ) ownSem c : sProp 𝕄)
      = bigSep Finset.univ (chanSems c) := by
  unfold Pipeline.ownSems0
  rw [bigSep_univ_prod]
  refine bigSep_congr fun x _ => ?_
  rw [bigSep_univ_sum, bigSep_univ_sum]; rfl

theorem chan_pairs (Φ : Chan → sProp 𝕄) : bigSep Finset.univ Φ = iprop(both (fun b => Φ (true, b)) ∗ both fun b => Φ (false, b)) := by
  rw [bigSep_univ_prod, star_bool]
  unfold both
  beta_reduce
  rw [star_bool, star_bool]; rfl

section Closing

variable (S : Sent F) (κ : Dev nD × Kind → ℕ)

theorem close_credit (x : Chan) (c : Dev nD) (u : ℕ) (h : 22 ≤ u) :
    iprop(recs S κ ∗ crdPos x c u) ⊢ iprop(|={Set.univ}=> semVal (credC x c (slotN u)) 0) := by
  unfold crdPos
  exact close1 S κ c (some (x, .inr (.inr (slotN u)))) (r := u / 8) fun s hs =>
    if_neg (by show ¬ 8 * s + u % 8 < 22; omega)

theorem recv_closed (x : Chan) (c : Dev nD) (t : Fin 30) : (rcvDone x c t.val : sProp 𝕄) ⊢ semVal (recvC x c t) 0 := by
  unfold rcvDone
  rw [stepN_val]
  iintro ⟨H, -⟩; iexact H

theorem close_chan (x : Chan) (c : Dev nD) : iprop(recs S κ ∗ ChanPost c x) ⊢ iprop(|={Set.univ}=> chanSems c x) := by
  have hR : hold (rcvDone x c) 0 30 ⊢ (bigSep Finset.univ fun t => semVal (recvC x c t) 0 : sProp 𝕄) := by
    rw [hold_fin]
    exact bigSep_mono fun t _ => recv_closed x c t
  have hS : hold (sndDone x c) 0 30 ⊢ (bigSep Finset.univ fun t => semVal (sendC x c t) 0 : sProp 𝕄) := by
    rw [hold_fin]
    refine bigSep_mono fun t _ => ?_
    unfold sndDone
    rw [stepN_val]
    exact BI.Entails.refl _
  have hC : iprop(recs S κ ∗ hold (crdPos x c) 22 30) ⊢ iprop(|={Set.univ}=> bigSep Finset.univ fun k => (semVal (credC x c k) 0 : sProp 𝕄)) := by
    rw [← hold_slots (Φ := fun u => semVal (credC x c (slotN u)) 0) 22 fun _ _ _ => rfl]
    unfold hold
    exact (bigSep_along fun u hu => close_credit S κ x c u (Finset.mem_Ico.mp hu).1).trans (bigSep_fupd _ _)
  unfold ChanPost Rcv Snd Crd chanSems
  iintro ⟨#HR, ⟨-, Hr⟩, ⟨-, -, -, Hs⟩, -, Hc, -⟩
  imod hC $$ [Hc] with Hc
  · isplitr; · iexact HR
    iexact Hc
  imodintro
  isplitl [Hs]
  · iapply hS; iexact Hs
  isplitl [Hr]
  · iapply hR; iexact Hr
  iexact Hc

/-- The end of the run: every semaphore of the kernel at zero, every scratch buffer whole. -/
theorem close_all (c : Dev nD) :
    iprop(recs S κ ∗ both (SidePost c)) ⊢ iprop(|={Set.univ}=> (bigSep Finset.univ (chanSems c) ∗ both (sideBufs c))) := by
  rw [chan_pairs]
  unfold both SidePost
  iintro ⟨#HR, ⟨A1, A2, A3⟩, B1, B2, B3⟩
  imod (close_chan S κ (false, true) c) $$ [A1] with A1
  · isplitr; · iexact HR
    iexact A1
  imod (close_chan S κ (true, true) c) $$ [A2] with A2
  · isplitr; · iexact HR
    iexact A2
  imod (close_chan S κ (false, false) c) $$ [B1] with B1
  · isplitr; · iexact HR
    iexact B1
  imod (close_chan S κ (true, false) c) $$ [B2] with B2
  · isplitr; · iexact HR
    iexact B2
  imodintro
  isplitl [A1 A2 B1 B2]
  · isplitl [A2 B2]
    · isplitl [A2]; · iexact A2
      iexact B2
    · isplitl [A1]; · iexact A1
      iexact B1
  isplitl [A3]
  · iapply (bufs_join c true); iexact A3
  · iapply (bufs_join c false); iexact B3

end Closing

end Cert.KernelIdeal.Ring
-- ==== Proof.Start.lean ====
/- The start of the run: the cells' ghost state is funded, every cell's invariant allocated, the duty tokens dealt to
   the devices that pay them, and the credit of what the devices owe dealt to the devices that wait for it. -/
module

public import proofs.«01_k».proof.Proof.Close
public import Idealize.ShloMosaic.Lib.Pipeline.BigSepL
public import Idealize.ShloMosaic.Lib.Pipeline.TalkSched

@[expose] public section

noncomputable section

namespace Cert.KernelIdeal.Ring

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The cells and the duty tokens -/

theorem kcell_inj : Function.Injective (kcell : Dev nD × Kind → GSem nD τ sig) := by
  rintro ⟨c, k⟩ ⟨c', k'⟩ h
  have h1 : c = c' := congrArg (fun g : GSem nD τ sig => g.1.1) h
  have h2 : k = k' := semOf_inj (congrArg Prod.snd h)
  rw [h1, h2]

def ringCells : Finset (GSem nD τ sig) := Finset.univ.map ⟨kcell, kcell_inj⟩

/-- The duties of a device's cells: its barrier's two; per channel, thirty sends, thirty receives, twenty-two credits. -/
abbrev Tok : Type := Bool ⊕ Chan × (Fin 30 ⊕ Fin 30 ⊕ Fin 22)

def tokKind : Tok → Kind
  | .inl _ => none
  | .inr (x, .inl t) => some (x, .inl t)
  | .inr (x, .inr (.inl t)) => some (x, .inr (.inl t))
  | .inr (x, .inr (.inr u)) => some (x, .inr (.inr (slotN u.val)))

def tokRound : Tok → ℕ
  | .inl _ => 0
  | .inr (_, .inl _) => 0
  | .inr (_, .inr (.inl _)) => 0
  | .inr (_, .inr (.inr u)) => u.val / 8

def tokDuty : Tok → Bool
  | .inl d => d
  | .inr _ => false

theorem tok_inj {j j' : Tok} (h1 : tokKind j = tokKind j') (h2 : tokRound j = tokRound j') (h3 : tokDuty j = tokDuty j') : j = j' := by
  rcases j with d | ⟨x, t | t | u⟩ <;> rcases j' with d' | ⟨x', t' | t' | u'⟩ <;>
    simp only [tokKind, tokRound, tokDuty, reduceCtorEq, Option.some.injEq, Prod.mk.injEq, Sum.inl.injEq, Sum.inr.injEq, and_false] at h1 h2 h3
  · rw [h3]
  · rw [h1.1, h1.2]
  · rw [h1.1, h1.2]
  · have e : u.val % 8 = u'.val % 8 := congrArg Fin.val h1.2
    rw [h1.1, show u = u' from Fin.ext (by omega)]

abbrev tokOf (cj : Dev nD × Tok) : GSem nD τ sig × ℕ × Bool := (kcell (cj.1, tokKind cj.2), tokRound cj.2, tokDuty cj.2)

theorem tokOf_inj : Function.Injective tokOf := by
  rintro ⟨c, j⟩ ⟨c', j'⟩ h
  have h1 := kcell_inj (congrArg Prod.fst h)
  have h2 := congrArg (fun y => y.2.1) h
  have h3 := congrArg (fun y => y.2.2) h
  have hj : j = j' := tok_inj (congrArg Prod.snd h1) h2 h3
  have hc : c = c' := congrArg (fun y : Dev nD × Kind => y.1) h1
  rw [hc, hj]

def ringToks : Finset (GSem nD τ sig × ℕ × Bool) := Finset.univ.map ⟨tokOf, tokOf_inj⟩

/-- The device whose cell device `c` pays with a token. -/
def tokTurn : Tok → Dev nD ≃ Dev nD
  | .inl d => turn (!d)
  | .inr (_, .inl _) => Equiv.refl _
  | .inr (x, .inr (.inl _)) => turn x.2
  | .inr (x, .inr (.inr _)) => turn (!x.2)

def tokAt (c : Dev nD) (j : Tok) : sProp 𝕄 := dutyTok ER (kcell (c, tokKind j)) (tokRound j) (tokDuty j)

/-- The tokens dealt around the ring. -/
theorem toks_around : (bigSep Finset.univ fun c : Dev nD => bigSep Finset.univ fun j => (tokAt c j : sProp 𝕄))
    = bigSep Finset.univ fun c : Dev nD => bigSep Finset.univ fun j => tokAt (tokTurn j c) j := by
  rw [← bigSep_univ_prod (fun cj : Dev nD × Tok => (tokAt cj.1 cj.2 : sProp 𝕄)),
    ← bigSep_univ_prod (fun cj : Dev nD × Tok => (tokAt (tokTurn cj.2 cj.1) cj.2 : sProp 𝕄)),
    bigSep_univ_equiv (Equiv.prodComm Tok (Dev nD)) (fun cj : Dev nD × Tok => (tokAt cj.1 cj.2 : sProp 𝕄)),
    bigSep_univ_equiv (Equiv.prodComm Tok (Dev nD)) (fun cj : Dev nD × Tok => (tokAt (tokTurn cj.2 cj.1) cj.2 : sProp 𝕄)),
    bigSep_univ_prod, bigSep_univ_prod]
  exact bigSep_congr fun j _ => bigSep_univ_equiv (tokTurn j) fun c => (tokAt c j : sProp 𝕄)

/-! ## Sums over the kinds -/

theorem star_comm (P Q : sProp 𝕄) : iprop(P ∗ Q) = iprop(Q ∗ P) :=
  BI.Entails.antisymm BI.sep_comm BI.sep_comm

theorem star_option {I : Type} [Fintype I] (Φ : Option I → sProp 𝕄) :
    bigSep Finset.univ Φ = iprop(Φ none ∗ bigSep Finset.univ fun i => Φ (some i)) := by
  rw [bigSep_univ_equiv (Equiv.optionEquivSumPUnit.{0} I).symm Φ, bigSep_univ_sum]
  rw [show (Finset.univ : Finset PUnit.{1}) = {PUnit.unit} from rfl, bigSep_singleton]
  exact star_comm _ _

theorem star_three {A B C : Type} [Fintype A] [Fintype B] [Fintype C] (Φ : A ⊕ B ⊕ C → sProp 𝕄) :
    bigSep Finset.univ Φ = iprop((bigSep Finset.univ fun a => Φ (.inl a)) ∗ (bigSep Finset.univ fun b => Φ (.inr (.inl b)))
      ∗ bigSep Finset.univ fun c => Φ (.inr (.inr c))) := by
  rw [bigSep_univ_sum, bigSep_univ_sum]; rfl

/-! ## What a channel starts with -/

def chanPos (c : Dev nD) (x : Chan) : sProp 𝕄 :=
  iprop((bigSep Finset.univ fun t => atPos ER (sendC x c t) 0 ∅ 0) ∗ (bigSep Finset.univ fun t => atPos ER (recvC x c t) 0 ∅ 0)
    ∗ bigSep Finset.univ fun k => atPos ER (credC x c k) 0 ∅ 0)

def chanToks (c : Dev nD) (x : Chan) : sProp 𝕄 :=
  iprop((bigSep Finset.univ fun t : Fin 30 => dutyTok ER (sendC x c t) 0 false) ∗ (bigSep Finset.univ fun t : Fin 30 => dutyTok ER (recvC x (nbr x.2 c) t) 0 false)
    ∗ bigSep Finset.univ fun u : Fin 22 => givTok x c u.val)

def recvCred (x : Chan) (c : Dev nD) (u : ℕ) : sProp 𝕄 := cred (tallyAt (recvC x c (stepN u)) (dueIx (.recv x u)) N)

def chanCreds (c : Dev nD) (x : Chan) : sProp 𝕄 := iprop(hold (recvCred x c) 0 30 ∗ hold (crdTok x c) 0 22)

theorem pos_eq (c : Dev nD) : (bigSep Finset.univ fun k : Kind => (atPos ER (kcell (c, k)) 0 ∅ 0 : sProp 𝕄))
    = iprop(atPos ER (barC c) 0 ∅ 0 ∗ bigSep Finset.univ (chanPos c)) := by
  rw [star_option, bigSep_univ_prod]
  congr 1
  exact bigSep_congr fun x _ => by rw [star_three]; rfl

theorem toks_eq (c : Dev nD) : (bigSep Finset.univ fun j : Tok => (tokAt (tokTurn j c) j : sProp 𝕄))
    = iprop(both (fun b => dutyTok ER (barC (nbr b c)) 0 (!b)) ∗ bigSep Finset.univ (chanToks c)) := by
  rw [bigSep_univ_sum, bigSep_univ_prod]
  have h1 : (bigSep Finset.univ fun b : Bool => (tokAt (tokTurn (.inl b) c) (.inl b) : sProp 𝕄))
      = both (fun b => dutyTok ER (barC (nbr b c)) 0 (!b)) := by
    rw [star_bool]
    exact star_comm _ _
  have h2 : (bigSep Finset.univ fun x : Chan => bigSep Finset.univ fun j => (tokAt (tokTurn (.inr (x, j)) c) (.inr (x, j)) : sProp 𝕄))
      = bigSep Finset.univ (chanToks c) :=
    bigSep_congr fun x _ => by rw [star_three]; rfl
  rw [h1, h2]; rfl

/-- A run of two families is the run of the pairs. -/
theorem hold_sep (Φ Ψ : ℕ → sProp 𝕄) (a b : ℕ) : hold (fun u => iprop(Φ u ∗ Ψ u)) a b = iprop(hold Φ a b ∗ hold Ψ a b) := by
  unfold hold; exact bigSep_sep' _ _ _

section Runs

variable (x : Chan) (c : Dev nD)

theorem rcvTok_run : hold (rcvTok x c) 0 30 = (iprop((bigSep Finset.univ fun t => atPos ER (recvC x c t) 0 ∅ 0) ∗ hold (recvCred x c) 0 30) : sProp 𝕄) := by
  have e : hold (fun u => atPos ER (recvC x c (stepN u)) 0 ∅ 0) 0 30 = (bigSep Finset.univ fun t => atPos ER (recvC x c t) 0 ∅ 0 : sProp 𝕄) := by
    rw [hold_fin]
    exact bigSep_congr fun t _ => congrArg (fun t => atPos ER (recvC x c t) 0 ∅ 0) (stepN_val t)
  rw [← e, ← hold_sep]; rfl

theorem sndTok_run : hold (sndTok x c) 0 30 = (iprop((bigSep Finset.univ fun t : Fin 30 => dutyTok ER (sendC x c t) 0 false)
    ∗ (bigSep Finset.univ fun t : Fin 30 => dutyTok ER (recvC x (nbr x.2 c) t) 0 false)) : sProp 𝕄) := by
  have e1 : hold (fun u => dutyTok ER (sendC x c (stepN u)) 0 false) 0 30 = (bigSep Finset.univ fun t => dutyTok ER (sendC x c t) 0 false : sProp 𝕄) := by
    rw [hold_fin]
    exact bigSep_congr fun t _ => congrArg (fun t => dutyTok ER (sendC x c t) 0 false) (stepN_val t)
  have e2 : hold (fun u => dutyTok ER (recvC x (nbr x.2 c) (stepN u)) 0 false) 0 30 = (bigSep Finset.univ fun t => dutyTok ER (recvC x (nbr x.2 c) t) 0 false : sProp 𝕄) := by
    rw [hold_fin]
    exact bigSep_congr fun t _ => congrArg (fun t => dutyTok ER (recvC x (nbr x.2 c) t) 0 false) (stepN_val t)
  rw [← e1, ← e2, ← hold_sep]; rfl

theorem sndPos_run : hold (sndPos x c) 0 30 = (bigSep Finset.univ fun t => atPos ER (sendC x c t) 0 ∅ 0 : sProp 𝕄) := by
  rw [hold_fin]
  exact bigSep_congr fun t _ => congrArg (fun t => atPos ER (sendC x c t) 0 ∅ 0) (stepN_val t)

theorem crdPos_run : hold (crdPos x c) 0 8 = (bigSep Finset.univ fun k => atPos ER (credC x c k) 0 ∅ 0 : sProp 𝕄) :=
  hold_slots (Ψ := fun k => atPos ER (credC x c k) 0 ∅ 0) 0 fun u _ hu =>
    congrArg (fun r => atPos ER (credC x c (slotN u)) r ∅ 0) (Nat.div_eq_of_lt (by omega))

end Runs

theorem chan_pre (c : Dev nD) (x : Chan) : iprop(chanPos c x ∗ chanToks c x ∗ chanCreds c x) ⊢ (ChanPre c x : sProp 𝕄) := by
  unfold ChanPre Rcv Snd Giv chanPos chanToks chanCreds
  rw [rcvTok_run, sndTok_run, sndPos_run, crdPos_run, hold_fin (givTok x c) 22, hold_none (Nat.le_refl 0), hold_none (Nat.le_refl 0), hold_none (Nat.le_refl 0)]
  iintro ⟨⟨P1, P2, P3⟩, ⟨T1, T2, T3⟩, C1, C2⟩
  isplitl [P2 C1]
  · isplitl [P2 C1]
    · isplitl [P2]; · iexact P2
      iexact C1
    · iempintro
  isplitl [P1 T1 T2]
  · isplitl [T1 T2]
    · isplitl [T1]; · iexact T1
      iexact T2
    isplitl [P1]; · iexact P1
    isplitr <;> iempintro
  isplitl [C2 P3]
  · isplitl [C2]; · iexact C2
    iexact P3
  iexact T3

/-- What the body starts from: the two sides, the barrier's tokens and credit. -/
theorem pre_intro (c : Dev nD) :
    iprop((bigSep Finset.univ fun k : Kind => atPos ER (kcell (c, k)) 0 ∅ 0) ∗ (bigSep Finset.univ fun j : Tok => tokAt (tokTurn j c) j)
        ∗ (cred (tallyAt (barC c) 1 2) ∗ bigSep Finset.univ (chanCreds c)) ∗ both (sideBufs c))
      ⊢ (iprop(both (SidePre c) ∗ HandPre c) : sProp 𝕄) := by
  have hch : iprop(bigSep Finset.univ (chanPos c) ∗ bigSep Finset.univ (chanToks c) ∗ bigSep Finset.univ (chanCreds c))
      ⊢ (bigSep Finset.univ (ChanPre c) : sProp 𝕄) := by
    rw [← bigSep_sep', ← bigSep_sep']
    exact bigSep_mono fun x _ => chan_pre c x
  have hpairs := chan_pairs (F := F) (ChanPre c)
  rw [pos_eq, toks_eq]
  iintro ⟨⟨HaB, Hp⟩, ⟨HtB, Ht⟩, ⟨HcB, Hc⟩, Hb⟩
  ihave Hch := hch $$ [Hp Ht Hc]
  · isplitl [Hp]; · iexact Hp
    isplitl [Ht]; · iexact Ht
    iexact Hc
  ihave Hch' := (Entails.of_eq hpairs) $$ Hch
  unfold both SidePre HandPre both
  icases Hch' with ⟨⟨C1, C2⟩, C3, C4⟩
  icases Hb with ⟨B1, B2⟩
  ihave B1' := (bufs_split c true) $$ B1
  ihave B2' := (bufs_split c false) $$ B2
  icases B1' with ⟨L1, S1⟩
  icases B2' with ⟨L2, S2⟩
  isplitl [C1 C2 C3 C4 S1 S2]
  · isplitl [C1 C3 S1]
    · isplitl [C3]; · iexact C3
      isplitl [C1]; · iexact C1
      iexact S1
    · isplitl [C4]; · iexact C4
      isplitl [C2]; · iexact C2
      iexact S2
  isplitl [HtB]; · iexact HtB
  isplitl [L1 L2]
  · isplitl [L1]; · iexact L1
    iexact L2
  isplitl [HaB]; · iexact HaB
  iexact HcB

/-! ## The launch credit -/

/-- The payments, channel by channel. -/
def chanDues (x : Chan) : List Due := (List.range 30).map (.recv x) ++ (List.range 22).map (.cred x)

def sortedDues : List Due :=
  .bar false :: .bar true :: (chanDues (true, true) ++ (chanDues (true, false) ++ (chanDues (false, true) ++ chanDues (false, false))))

theorem allDues_nodup : allDues.Nodup := by decide +kernel
theorem allDues_perm : allDues.Perm sortedDues := by decide +kernel

/-- All payments, summed over the devices that make them, are those summed over the devices that get them. -/
theorem owed_sum (l : List Due) : (∑ c : Dev nD, owed c l) = ∑ c : Dev nD, TalkSites.tallyL (l.map (payAt c)) := by
  induction l with
  | nil => rfl
  | cons e l ih =>
    simp only [owed_cons, List.map_cons, TalkSites.tallyL]
    rw [Finset.sum_add_distrib, Finset.sum_add_distrib, ih, add_comm]
    congr 1
    rcases e with b | ⟨x, u⟩ | ⟨x, u⟩
    · exact Equiv.sum_comp (turn b) fun c => (tallyAt (barC c) (dueIx (.bar b)) 1 : CellTallies nD τ sig ℕ)
    · exact Equiv.sum_comp (turn x.2) fun c => (tallyAt (recvC x c (stepN u)) (dueIx (.recv x u)) N : CellTallies nD τ sig ℕ)
    · exact Equiv.sum_comp (turn (!x.2)) fun c => (tallyAt (credC x c (slotN u)) (dueIx (.cred x u)) 1 : CellTallies nD τ sig ℕ)

theorem payAt_tc {c : Dev nD} {l : List Due} (g : GSem nD τ sig) (h : TalkSites.tallyL (l.map (payAt c)) g ≠ 0) : g.1 = (c : Thread nD τ) := by
  obtain ⟨i, hi⟩ := Finsupp.ne_iff.mp h
  obtain ⟨p, hp, rfl, rfl⟩ := TalkSites.tallyL_pos (Nat.pos_of_ne_zero hi)
  obtain ⟨e, he, rfl⟩ := List.mem_map.mp hp
  cases e <;> rfl

theorem creds_range (Φ : ℕ → sProp 𝕄) (n : ℕ) : bigSepL (List.range n) Φ = hold Φ 0 n := by
  unfold hold
  exact (bigSep_eq_bigSepL_of_eq (List.range n) (by ext i; simp) List.nodup_range Φ).symm

theorem chanDues_creds (c : Dev nD) (x : Chan) : bigSepL (chanDues x) (fun e => (cred (payAt c e).tally : sProp 𝕄)) = chanCreds c x := by
  unfold chanDues chanCreds
  rw [bigSepL_append, bigSepL_map, bigSepL_map, creds_range, creds_range]; rfl

theorem launch_creds (c : Dev nD) :
    (Pipeline.launchCred (fun d => owed d allDues) c : sProp 𝕄) ⊢ iprop(cred (tallyAt (barC c) 1 2) ∗ bigSep Finset.univ (chanCreds c)) := by
  rw [Pipeline.launchCred_of_sum _ (fun d => TalkSites.tallyL (allDues.map (payAt d))) (owed_sum allDues) (fun d g h => payAt_tc g h) c,
    TalkSites.cred_tallyL, bigSepL_map, TalkSites.bigSepL_perm allDues_perm allDues_nodup, chan_pairs]
  unfold sortedDues both
  rw [bigSepL_cons', bigSepL_cons', bigSepL_append, bigSepL_append, bigSepL_append,
    chanDues_creds, chanDues_creds, chanDues_creds, chanDues_creds]
  have h2 : (tallyAt (barC c) 1 2 : CellTallies nD τ sig ℕ) = tallyAt (barC c) 1 1 + tallyAt (barC c) 1 1 := by
    show tallyAt (barC c) 1 (1 + 1) = _
    rw [tallyAt_add]
  rw [h2]
  iintro ⟨B1, B2, C1, C2, C3, C4⟩
  isplitl [B1 B2]
  · iapply (cred_add _ _).2
    isplitl [B1]; · iexact B1
    iexact B2
  isplitl [C1 C2]
  · isplitl [C1]; · iexact C1
    iexact C2
  · isplitl [C3]; · iexact C3
    iexact C4

/-! ## The ghost state -/

section Ghost

variable (S : Sent F)

def u₀ : UU :=
  (initOf (Pipeline.cells cfgs cellOf_inj) (Pipeline.launchToks cfgs cellOf_inj), initOf ringCells ringToks)

/-- What the launch deals device `c`; what it has once the invariants are there and the tokens dealt. -/
def G (c : Dev nD) : sProp 𝕄 :=
  iprop((bigSep Finset.univ fun k : Kind => roundState ER (ringRd S) (kcell (c, k)) 0)
    ∗ ((bigSep Finset.univ fun k : Kind => atPos ER (kcell (c, k)) 0 ∅ 0) ∗ bigSep Finset.univ fun k : Kind => reached ER (kcell (c, k)) 0)
    ∗ bigSep Finset.univ fun j => tokAt c j)

def cellRecs (κ : Dev nD × Kind → ℕ) : sProp 𝕄 :=
  bigSep Finset.univ fun ck => iprop(cellInv ER (ringRd S) (κ ck) (kcell ck) ∗ reached ER (kcell ck) 0)

instance cellRecs_persistent (κ : Dev nD × Kind → ℕ) : BI.Persistent (cellRecs S κ) := by unfold cellRecs; infer_instance

def G' (c : Dev nD) : sProp 𝕄 :=
  iprop((∃ κ, cellRecs S κ) ∗ (bigSep Finset.univ fun k : Kind => atPos ER (kcell (c, k)) 0 ∅ 0) ∗ bigSep Finset.univ fun j : Tok => tokAt (tokTurn j c) j)

theorem fund_ring : BI.own (ER (initOf ringCells ringToks)) ⊢ (|==> bigSep Finset.univ (G S) : sProp 𝕄) := by
  have hX (Φ : GSem nD τ sig → sProp 𝕄) : bigSep ringCells Φ = bigSep Finset.univ fun c : Dev nD => bigSep Finset.univ fun k : Kind => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => bigSep Finset.univ fun j => tokAt c j := by
    unfold ringToks; rw [bigSep_map, bigSep_univ_prod]; rfl
  iintro HX
  imod (Rounds.fund ER (ringRd S) ringCells ringToks) $$ HX with ⟨Hst, Hr, Hat, Htok⟩
  imodintro
  ihave Hst' := (Entails.of_eq (hX fun g => roundState ER (ringRd S) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscoped_eq (c : Dev nD) : (unscopedSems0 c : sProp 𝕄) = semVal (barC c) 0 := by
  unfold unscopedSems0; rw [bigSep_eq_bigSepL_of_eq [SemLoc.reg barSem] (by decide) (by decide)]; rfl

theorem sems_eq (c : Dev nD) :
    iprop(Pipeline.ownSems0 (Ix := ℕ) (Name := ℕ) (U := UU) (Lvl := ℕ) (Val := Elt F) (τ := τ) ownSem c ∗ unscopedSems0 c)
      ⊢ (bigSep Finset.univ fun k : Kind => semVal (kcell (c, k)) 0 : sProp 𝕄) := by
  rw [star_option, unscoped_eq]
  unfold Pipeline.ownSems0
  iintro ⟨H, HB⟩
  isplitl [HB]; · iexact HB
  iexact H

theorem alloc_core (c : Dev nD) :
    iprop(Pipeline.ownSems0 (Ix := ℕ) (Name := ℕ) (U := UU) (Lvl := ℕ) (Val := Elt F) (τ := τ) ownSem c ∗ unscopedSems0 c ∗ G S c)
      ⊢ |={Set.univ}=> iprop((bigSep Finset.univ fun k : Kind => iprop(∃ κ : ℕ, cellInv ER (ringRd S) κ (kcell (c, k))))
          ∗ ((bigSep Finset.univ fun k : Kind => atPos ER (kcell (c, k)) 0 ∅ 0) ∗ bigSep Finset.univ fun k : Kind => reached ER (kcell (c, k)) 0)
          ∗ bigSep Finset.univ fun j => tokAt c j) := by
  have hal : iprop((bigSep Finset.univ fun k : Kind => semVal (kcell (c, k)) 0) ∗ bigSep Finset.univ fun k : Kind => roundState ER (ringRd S) (kcell (c, k)) 0)
      ⊢ (|={Set.univ}=> bigSep Finset.univ fun k : Kind => iprop(∃ κ : ℕ, cellInv ER (ringRd S) κ (kcell (c, k))) : sProp 𝕄) := by
    rw [← bigSep_sep']
    exact (bigSep_mono fun k _ => (Rounds.body_intro ER (ringRd S) (kcell (c, k))).trans inv_alloc).trans (bigSep_fupd _ _)
  unfold G
  iintro ⟨Hos, Hus, Hst, Hat, Htok⟩
  ihave Hv := (sems_eq (F := F) c) $$ [Hos Hus]
  · isplitl [Hos] <;> iassumption
  imod hal $$ [Hv Hst] with Hinv
  · isplitl [Hv] <;> iassumption
  imodintro
  isplitl [Hinv]; · iexact Hinv
  isplitl [Hat]; · iexact Hat
  iexact Htok

theorem share_out (κ : Dev nD × Kind → ℕ) (c : Dev nD) :
    iprop(cellRecs S κ ∗ ((bigSep Finset.univ fun k : Kind => atPos ER (kcell (c, k)) 0 ∅ 0) ∗ bigSep Finset.univ fun j : Tok => tokAt (tokTurn j c) j)) ⊢ (G' S c : sProp 𝕄) := by
  unfold G'
  iintro ⟨#HR, H⟩
  isplitr
  · iexists κ; iexact HR
  iexact H

theorem regroup :
    (bigSep Finset.univ fun c : Dev nD => iprop((bigSep Finset.univ fun k : Kind => iprop(∃ κ : ℕ, cellInv ER (ringRd S) κ (kcell (c, k))))
          ∗ ((bigSep Finset.univ fun k : Kind => atPos ER (kcell (c, k)) 0 ∅ 0) ∗ bigSep Finset.univ fun k : Kind => reached ER (kcell (c, k)) 0)
          ∗ bigSep Finset.univ fun j => tokAt c j) : sProp 𝕄)
      ⊢ bigSep Finset.univ (G' S) := by
  have hout (κ : Dev nD × Kind → ℕ) : iprop(cellRecs S κ ∗ bigSep Finset.univ fun c : Dev nD =>
      iprop((bigSep Finset.univ fun k : Kind => atPos ER (kcell (c, k)) 0 ∅ 0) ∗ bigSep Finset.univ fun j : Tok => tokAt (tokTurn j c) j)) ⊢ (bigSep Finset.univ (G' S) : sProp 𝕄) :=
    bigSep_along fun c _ => share_out S κ c
  have hrec (κ : Dev nD × Kind → ℕ) : cellRecs S κ = (iprop((bigSep Finset.univ fun ck : Dev nD × Kind => cellInv ER (ringRd S) (κ ck) (kcell ck))
      ∗ bigSep Finset.univ fun ck : Dev nD × Kind => reached ER (kcell ck) 0) : sProp 𝕄) := by
    unfold cellRecs; exact bigSep_sep' _ _ _
  simp only [bigSep_sep'] at hout ⊢
  rw [toks_around, ← bigSep_univ_prod (fun ck : Dev nD × Kind => iprop(∃ κ : ℕ, cellInv ER (ringRd S) κ (kcell ck))),
    ← bigSep_univ_prod (fun ck : Dev nD × Kind => (reached ER (kcell ck) 0 : sProp 𝕄))]
  iintro ⟨HI, ⟨Hat, HR⟩, Htok⟩
  classical
  ihave HK := (BI.bigSep_exists_pi Finset.univ (fun (ck : Dev nD × Kind) (κ : ℕ) => (cellInv ER (ringRd S) κ (kcell ck) : sProp 𝕄))) $$ HI
  icases HK with ⟨%κ, HI⟩
  iapply (hout κ)
  isplitl [HI HR]
  · rw [hrec]
    isplitl [HI]; · iexact HI
    iexact HR
  isplitl [Hat]; · iexact Hat
  iexact Htok

/-- The launch's one step over all devices. -/
theorem glob : (bigSep Finset.univ fun c => iprop(Pipeline.ownSems0 (Ix := ℕ) (Name := ℕ) (U := UU) (Lvl := ℕ) (Val := Elt F) (τ := τ) ownSem c ∗ unscopedSems0 c ∗ G S c) : sProp 𝕄)
    ⊢ |={Set.univ}=> bigSep Finset.univ (G' S) :=
  ((bigSep_mono fun c _ => alloc_core S c).trans (bigSep_fupd _ _)).trans (BI.fupd_mono (regroup S))

end Ghost

end Cert.KernelIdeal.Ring
-- ==== Proof.BodyEq.lean ====
/- The printed body is the two rings of this proof, run in its order: one equation between the two texts. -/
module

public import proofs.«01_k».proof.Proof.Steps

@[expose] public section

noncomputable section

namespace Cert.KernelIdeal.Ring

open Idealize.ShloMosaic Idealize.SL.Sem Cert.KernelIdeal.Gen

variable {F : FTy → Type} [FloatOps F]

/-- The body reads its device's number and then does what `bodyOn` says, on the two gathering and the two scattering rings. -/
theorem body_eq (arg0 : Memref sig .tc .vmem S4096x256 .f32) (harg0 : arg0.IsWhole) (arg1 : Memref sig .tc .vmem S256x2048 .f32) (harg1 : arg1.IsWhole) (arg2 : Memref sig .tc .vmem S4096x2048 .f32) (harg2 : arg2.IsWhole) (arg3 : Memref sig .tc .vmem S8x128x1024 .bf16) (harg3 : arg3.IsWhole) (arg4 : Memref sig .tc .vmem S8x128x1024 .bf16) (harg4 : arg4.IsWhole) (arg5 : Memref sig .tc .vmem S8x128x1024 .bf16) (harg5 : arg5.IsWhole) (arg6 : Memref sig .tc .vmem S8x128x1024 .bf16) (harg6 : arg6.IsWhole) (arg7 : Memref sig .tc .vmem S8x128x1024 .bf16) (harg7 : arg7.IsWhole) (arg8 : Memref sig .tc .vmem S8x128x1024 .bf16) (harg8 : arg8.IsWhole) (arg9 : Memref sig .tc .vmem S2x128x1024 .bf16) (harg9 : arg9.IsWhole) (arg10 : Memref sig .tc .vmem S2x128x1024 .bf16) (harg10 : arg10.IsWhole) (arg11 : DmaSems sig S30) (arg12 : DmaSems sig S30) (arg13 : Sems sig S8) (arg14 : DmaSems sig S30) (arg15 : DmaSems sig S30) (arg16 : Sems sig S8) (arg17 : DmaSems sig S30) (arg18 : DmaSems sig S30) (arg19 : Sems sig S8) (arg20 : DmaSems sig S30) (arg21 : DmaSems sig S30) (arg22 : Sems sig S8) :
    cc0_body_skel (F := F) arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20 arg21 arg22
      = .op .deviceId (fun d => bodyOn arg0 arg1 arg2 ⟨arg3, harg3, arg5, harg5, arg11, arg12, arg13⟩ ⟨arg4, harg4, arg6, harg6, arg14, arg15, arg16⟩
          ⟨arg7, harg7, arg9, harg9, arg17, arg18, arg19⟩ ⟨arg8, harg8, arg10, harg10, arg20, arg21, arg22⟩ d) := by
  chain_rfl

end Cert.KernelIdeal.Ring
-- ==== Proof.Run.lean ====
/- The whole run: on every device the body, from its share of the start to its share of the end; the launch; and what
   every device's result array holds once all have finished. -/
module

public import proofs.«01_k».proof.Proof.Start
public import proofs.«01_k».proof.Proof.BodyEq
public import proofs.«01_k».proof.Proof.Gen.KernelIdeal.Points
public import Idealize.ShloMosaic.Lib.Pipeline.CollectiveSegs

@[expose] public section

noncomputable section

namespace Cert.KernelIdeal.Ring

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The result from its blocks -/

/-- The block an element of the result lies in, and where in the block. -/
def keyOf (i : S4096x2048.Idx) : Key :=
  (decide ((i 1).val < 1024), ⟨(i 0).val / 256, by have : (i 0).val < 4096 := (i 0).isLt; omega⟩, ⟨(i 0).val / 128 % 2, Nat.mod_lt _ (by decide)⟩)

def locOf (i : S4096x2048.Idx) : S128x1024.Idx := fun a => match a with
  | ⟨0, _⟩ => ⟨(i 0).val % 128, Nat.mod_lt _ (by decide)⟩
  | ⟨1, _⟩ => ⟨(i 1).val % 1024, Nat.mod_lt _ (by decide)⟩

theorem key_loc (i : S4096x2048.Idx) : (keyRect (keyOf i)).idx (locOf i) = i := by
  have h0 : (i 0).val < 4096 := (i 0).isLt
  have h1 : (i 1).val < 2048 := (i 1).isLt
  funext a
  apply Fin.ext
  rw [Rect.idx_unit_val]
  match a with
  | ⟨0, _⟩ =>
    show 256 * ((i 0).val / 256) + 128 * ((i 0).val / 128 % 2) + (i 0).val % 128 = (i 0).val
    omega
  | ⟨1, _⟩ =>
    show colOff (decide ((i 1).val < 1024)) + (i 1).val % 1024 = (i 1).val
    by_cases h : (i 1).val < 1024
    · rw [decide_eq_true h]; show 0 + _ = _; omega
    · rw [decide_eq_false h]; show 1024 + _ = _; omega

section Out

variable (X : Dev nD → Vec F S4096x256 .f32) (W : Dev nD → Vec F S256x2048 .f32)

/-- The result on device `c`. -/
def outAt (c : Dev nD) : Vec F S4096x2048 .f32 := fun i => finVal X W (keyOf i).1 c (finIx c (keyOf i)) (locOf i)

theorem out_read {f : Vec F S4096x2048 .f32} {c : Dev nD}
    (h : ∀ y v, outT X W c (fun _ => 32) y = some v → ∀ i, f ((keyRect y).idx i) = v i) : f = outAt X W c := by
  funext i
  have e := h (keyOf i) _ (by unfold outT; rw [if_pos (finIx_lt c (keyOf i))]) (locOf i)
  rw [key_loc] at e
  exact e

end Out

/-! ## The pipeline's proof data -/

variable (m : (ℓ : Loc nD τ sig) → Buf (Elt F) ℓ) (ρ : Dev nD → PrngReg)

def s₀ : MemSt nD τ sig (Elt F) := ⟨m, fun _ => 0, ρ⟩

/-- Device `c`'s shares of the two operands. -/
def xAt (c : Dev nD) : Vec F S4096x256 .f32 := ((cfg0.win 0).blk t0_0).view.read (Elt F) (m ((cfg0.win 0).arr.view.loc (c : Thread nD τ)))
def wAt (c : Dev nD) : Vec F S256x2048 .f32 := ((cfg0.win 1).blk t0_0).view.read (Elt F) (m ((cfg0.win 1).arr.view.loc (c : Thread nD τ)))

abbrev sentAt : Sent F := sent (xAt m) (wAt m)

/-- What device `c`'s body starts from besides its buffers. -/
def start (c : Dev nD) : sProp 𝕄 :=
  iprop(G' (sentAt m) c ∗ (cred (tallyAt (barC c) 1 2) ∗ bigSep Finset.univ (chanCreds c)) ∗ levs)

def Φ₀ (c : Dev nD) : sProp 𝕄 := iprop(start m c ∗ both (sideBufs c))

def Φ₁ (c : Dev nD) : sProp 𝕄 := iprop(semVal (barC c) 0 ∗ bigSep Finset.univ (chanSems c) ∗ both (sideBufs c))

def dats (_ : Fin 1) (c : Dev nD) : Dat τ (Elt F) ℕ ℕ UU ℕ cfg0 c where
  A w := m ((cfg0.win w).arr.view.loc (c : Thread nD τ))
  after w _ := match w with
    | ⟨0, _⟩ => xAt m c
    | ⟨1, _⟩ => wAt m c
    | ⟨2, _⟩ => outAt (xAt m) (wAt m) c
  Φ t := match t with
    | ⟨0, _⟩ => Φ₀ m c
    | ⟨_ + 1, _⟩ => Φ₁ c
  q _ := fullShare
  owed t := match t with
    | ⟨0, _⟩ => owed c allDues
    | ⟨_ + 1, _⟩ => 0

theorem owns_whole (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body -/

def bodyPre (c : Dev nD) : sProp 𝕄 :=
  iprop(Φ₀ m c ∗ (dats m 0 c).owesAt 0 t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost (c : Dev nD) : sProp 𝕄 :=
  iprop(Φ₁ c ∗ (dats m 0 c).owesAt 0 t0_0.succ ∗ stg c cc0_stg0_0 (xAt m c) ∗ stg c cc0_stg1_0 (wAt m c)
    ∗ stg c cc0_stg2_0 (outAt (xAt m) (wAt m) c))

abbrev xM : Memref sig .tc .vmem S4096x256 .f32 := Memref.whole cc0_stg0_0
abbrev wM : Memref sig .tc .vmem S256x2048 .f32 := Memref.whole cc0_stg1_0
abbrev oM : Memref sig .tc .vmem S4096x2048 .f32 := Memref.whole cc0_stg2_0

theorem xM_eq (c : Dev nD) (X : Vec F S4096x256 .f32) : (inB xM c X : sProp 𝕄) = stg c cc0_stg0_0 X := by
  unfold inB; simp only [Memref.view_whole, View.read_whole, View.set_whole]
theorem wM_eq (c : Dev nD) (X : Vec F S256x2048 .f32) : (inB wM c X : sProp 𝕄) = stg c cc0_stg1_0 X := by
  unfold inB; simp only [Memref.view_whole, View.read_whole, View.set_whole]

theorem oM_start (c : Dev nD) (X : Vec F S4096x2048 .f32) : stg c cc0_stg2_0 X ⊢ (outSt oM c (gemmT (xAt m) (wAt m) c 0) : sProp 𝕄) := by
  unfold outSt; simp only [Memref.view_whole, View.read_whole, View.set_whole]
  iintro ⟨%f, -, H⟩
  iexists f
  isplitr
  · ipureintro
    intro y v h
    unfold gemmT at h
    rw [if_neg (by rintro ⟨k, hk, -⟩; exact Nat.not_lt_zero _ hk)] at h
    cases h
  iexact H

theorem oM_end (c : Dev nD) : (outSt oM c (outT (xAt m) (wAt m) c fun _ => 32) : sProp 𝕄) ⊢ stg c cc0_stg2_0 (outAt (xAt m) (wAt m) c) := by
  unfold outSt; simp only [Memref.view_whole, View.read_whole, View.set_whole]
  iintro ⟨%f, %hf, H⟩
  iexists f
  isplitr
  · ipureintro; exact out_read (xAt m) (wAt m) hf
  iexact H

/-- The body on device `c`, from the pipeline's state before the one point to its state after. -/
theorem sound_body (c : Dev nD) :
    bodyPre m c ⊢ runs c (bodyOn xM wM oM (rsOf true) (rsOf false) (agOf true) (agOf false) c) (fun _ => bodyPost m c) := by
  unfold bodyPre Φ₀ start G' Dat.owesAt Pipeline.owesWithin
  iintro ⟨⟨⟨⟨⟨%κ, #HR⟩, Hat, Htok⟩, Hcr, #Hlev⟩, Hbuf⟩, ⟨%w, -, HO⟩, ⟨%d0, %g0, %hg0, Hx⟩, ⟨%d1, %g1, %hg1, Hw⟩, ⟨%d2, Hout⟩⟩
  have hx : g0 = xAt m c := by rw [hg0]; unfold Dat.before; rw [if_pos (fetch0_0 t0_0)]; rfl
  have hw : g1 = wAt m c := by rw [hg1]; unfold Dat.before; rw [if_pos (fetch0_1 t0_0)]; rfl
  subst hx hw
  ihave Hpre := (pre_intro c) $$ [Hat Htok Hcr Hbuf]
  · isplitl [Hat]; · iexact Hat
    isplitl [Htok]; · iexact Htok
    isplitl [Hcr]; · iexact Hcr
    iexact Hbuf
  icases Hpre with ⟨Hside, Hhand⟩
  ihave Hout' := (oM_start m c _) $$ Hout
  ihave #HRS := (show iprop(cellRecs (sentAt m) κ ∗ levs) ⊢ (recs (sentAt m) κ : sProp 𝕄) from by unfold recs cellRecs; exact .rfl) $$ []
  · isplitl; · iexact HR
    iexact Hlev
  unfold runs
  iapply (wp_fupd frame (wpE (defs₀ (F := F)) 𝒱₀ (c : Thread nD τ) none))
  iapply (wp_wand_r frame (wpE (defs₀ (F := F)) 𝒱₀ (c : Thread nD τ) none))
  isplitl
  · iapply (show iprop(recs (sentAt m) κ ∗ both (SidePre c) ∗ HandPre c ∗ (inB xM c (xAt m c) ∗ inB wM c (wAt m c)) ∗ outSt oM c (gemmT (xAt m) (wAt m) c 0) ∗ owesL c allDues)
      ⊢ wp frame (wpE (defs₀ (F := F)) 𝒱₀ (c : Thread nD τ) none) Set.univ (bodyOn xM wM oM (rsOf true) (rsOf false) (agOf true) (agOf false) c) _ from
        wp_bodyOn (xAt m) (wAt m) κ oM c xM wM)
    isplitr; · iexact HRS
    isplitl [Hside]; · iexact Hside
    isplitl [Hhand]; · iexact Hhand
    isplitl [Hx Hw]
    · rw [xM_eq, wM_eq]
      isplitl [Hx]
      · iexists (xAt m c); isplitr; · ipureintro; rfl
        iexact Hx
      iexists (wAt m c); isplitr; · ipureintro; rfl
      iexact Hw
    isplitl [Hout']; · iexact Hout'
    unfold owesL
    iexists w
    iexact HO
  iintro %_ ⟨Hside, Hbar, ⟨Hx, Hw⟩, Hout, HO⟩
  imod (close_all (sentAt m) κ c) $$ [Hside] with ⟨Hsems, Hbuf⟩
  · isplitr; · iexact HRS
    iexact Hside
  imodintro
  ihave Hout := (oM_end m c) $$ Hout
  unfold owesL
  icases HO with ⟨%w', HO⟩
  unfold bodyPost Φ₁ Dat.owesAt Pipeline.owesWithin
  isplitl [Hbar Hsems Hbuf]
  · isplitl [Hbar]; · iexact Hbar
    isplitl [Hsems] <;> iassumption
  isplitl [HO]
  · iexists w'
    isplitr; · ipureintro; exact fun _ _ => Or.inl trivial
    rw [owed_nil]
    iexact HO
  isplitl [Hx]
  · iapply (Entails.of_eq (xM_eq c (xAt m c))); iexact Hx
  isplitl [Hw]
  · iapply (Entails.of_eq (wM_eq c (wAt m c))); iexact Hw
  iexact Hout

seal cc0_body cc0_body_skel bodyOn in
/-- The launched program is the body, with its own device's number. -/
theorem body_at : (defs₀ (F := F)) Proc.tc 0 (t0_0, cfg0.slots t0_0)
    = .op .deviceId (fun d => bodyOn xM wM oM (rsOf true) (rsOf false) (agOf true) (agOf false) d) := by
  show cc0_body xM _ wM _ oM _ (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _)
      (Memref.whole cc0_scratch5) (Memref.isWhole_whole _) (Memref.whole cc0_scratch6) (Memref.isWhole_whole _) (Memref.whole cc0_scratch7) (Memref.isWhole_whole _)
      cc0_scratch8 cc0_scratch9 cc0_scratch10 cc0_scratch11 cc0_scratch12 cc0_scratch13 cc0_scratch14 cc0_scratch15 cc0_scratch16 cc0_scratch17 cc0_scratch18 cc0_scratch19 = _
  rw [cc0_body_eq_skeleton, body_eq]
  rfl

seal bodyOn in
theorem body_obligation (c : Dev nD) : BodyObligation (dats (F := F) m 0 c) (defs₀ (F := F)) 𝒱₀ 0 Set.univ := fun t => by
  rw [fin_N0 t]
  rw [bigSep_W0, bigSep_W0]
  simp only [owns_whole]
  rw [body_at, wp_deviceId]
  have h := sound_body m c
  unfold runs bodyPre bodyPost at h
  have e0 : (dats m 0 c).Φ t0_0.castSucc = Φ₀ m c := rfl
  have e1 : (dats m 0 c).Φ t0_0.succ = Φ₁ c := rfl
  rw [e0, e1]
  exact h

/-! ## The launch -/

theorem ownSemFacts : Pipeline.OwnSemFacts cfg0.spec ownSem := by decide +kernel

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts Lv lv
        ∗ Pipeline.launchCred (fun d => owed d allDues) c ∗ prngReg c (ρ c) ∗ G' (sentAt m) c)
      ⊢ |={Set.univ}=> (iprop(start m c ∗ emp) : sProp 𝕄) := by
  iintro ⟨-, Hlev, Hcr, -, HG⟩
  ihave Hc := (launch_creds (F := F) c) $$ Hcr
  imodintro
  unfold start levs
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  show _ ⊢ Φ₀ m c
  unfold Φ₀
  iintro ⟨Hs, -, Hr⟩
  isplitl [Hs]; · iexact Hs
  iapply (scoped_eq (F := F) c)
  iexact Hr

theorem phi1_exit (c : Dev nD) :
    (dats m 0 c).Φ (Fin.last cfg0.N) ⊢ iprop(unscopedSems0 c ∗ Pipeline.ownSems0 ownSem c ∗ Pipeline.scopedRest cfg0.spec c) := by
  show Φ₁ c ⊢ _
  rw [ownSems_eq, unscoped_eq]
  unfold Φ₁
  iintro ⟨HB, HS, Hr⟩
  isplitl [HB]; · iexact HB
  isplitl [HS]; · iexact HS
  iapply (scoped_of (F := F) c)
  iexact Hr

theorem none_owed (c : Dev nD) (sm : SemLoc sig) : (levAts Lv lv : sProp 𝕄) ⊢ MayWait (c : Thread nD τ) sm 0 0 := by
  have h := mayWait (F := F) (i := 0) (by decide) c sm (l := []) rfl
  rw [owed_nil] at h
  exact h

theorem waits (c : Dev nD) : (levAts Lv lv : sProp 𝕄) ⊢ Pipeline.cellsWaits cfgs (dats m) 0 0 c :=
  Pipeline.cellsWaits_intro cfgs (dats m) 0 0 c fun w s t => by
    rcases t with ⟨_ | _, ht⟩
    · exact mayWait (by decide) c _ above_allDues
    · exact none_owed c _

/-! ## The run -/

/-- What array `w` holds on device `c` after the run. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 100000 in
/-- On sixteen devices, for any float values and from any memory with zero counters: every fair execution ends, every
    window's array then holds `finalA`, and every counter is zero again. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun c => owed c allDues) (howed₀ := fun _ => rfl) (howedN := fun _ => rfl)
    (L := Lv) (lv := lv) (hL := fun g h => SiteBlocks.hL 2000 g h) (hwaits := waits m)
    (G := G (sentAt m)) (G' := G' (sentAt m)) (u₀ := u₀)
    (hu₀ := by
      unfold u₀
      iintro Hu
      ihave H := (ownU_pair _ _) $$ Hu
      icases H with ⟨HP, HX⟩
      imod (fund_ring (sentAt m)) $$ HX with HG
      imodintro
      isplitl [HP] <;> iassumption)
    (hglob := glob (sentAt m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands hold what they held. -/
theorem finalA_x (c : Dev nD) : finalA m c (0 : Fin 3) = m ((cfg0.win 0).arr.view.loc (c : Thread nD τ)) := (dats m 0 c).arrAt_in (0 : Fin 3) rfl _
theorem finalA_w (c : Dev nD) : finalA m c (1 : Fin 3) = m ((cfg0.win 1).arr.view.loc (c : Thread nD τ)) := (dats m 0 c).arrAt_in (1 : Fin 3) rfl _

end Cert.KernelIdeal.Ring
-- ==== Proof.Frames.lean ====
/- The run read back: the two frame claims of the kernel. -/
module

public import proofs.«01_k».proof.Proof.Run
public import proofs.«01_k».proof.Proof.Gen.Kernel
public import proofs.«01_k».proof.Defs

@[expose] public section

set_option maxRecDepth 100000

noncomputable section

namespace Cert.Proof

open Idealize.ShloMosaic Idealize.ShloMosaic.TcCoe Idealize.SL.Sem

theorem frame_ideal : Cert.quiescent_KernelIdeal := fun m ρ _ =>
  (θ_run Cert.KernelIdeal.defs _ _).mono
    (fun r h => ⟨fun c => ⟨(h.1 c (0 : Fin 3)).trans (Cert.KernelIdeal.Ring.finalA_x m c), (h.1 c (1 : Fin 3)).trans (Cert.KernelIdeal.Ring.finalA_w m c)⟩, h.2⟩)
    (Cert.KernelIdeal.Ring.run_main (F := Ideal) m ρ)

/-- The two programs have the same text, so the same table of bodies. -/
theorem same_defs : Cert.Kernel.defs (F := Bits) = Cert.KernelIdeal.defs (F := Bits) := by chain_rfl

theorem frame_kernel : Cert.quiescent_Kernel := fun m ρ _ => by
  rw [same_defs]
  exact (θ_run Cert.KernelIdeal.defs _ _).mono
    (fun r h => ⟨fun c => ⟨(h.1 c (0 : Fin 3)).trans (Cert.KernelIdeal.Ring.finalA_x m c), (h.1 c (1 : Fin 3)).trans (Cert.KernelIdeal.Ring.finalA_w m c)⟩, h.2⟩)
    (Cert.KernelIdeal.Ring.run_main (F := Bits) m ρ)

end Cert.Proof
-- ==== Proof.Value.lean ====
/- The result over the extended reals: every block a device stores is the sum over all devices of their products'
   blocks, passed through the activation. -/
module

public import proofs.«01_k».proof.Proof.Run
public import Idealize.ShloMosaic.PureOps.Ideal.Laws
public import Idealize.ShloMosaic.Lib.MatmulPlain
public import Idealize.ShloMosaic.Lib.ValueIdx
public import Idealize.ShloMosaic.Lib.ValueLayout
public import Idealize.ShloMosaic.Lib.Pipeline.Value

@[expose] public section

noncomputable section

namespace Cert.KernelIdeal.Ring

open Idealize.ShloMosaic Idealize.ShloMosaic.TcCoe Idealize.ShloMosaic.ValueIdx Cert.KernelIdeal.Gen
open scoped BigOperators

/-! ## The operations at an element -/

/-- A block's place in the buffers that carry blocks. -/
abbrev up (i : S128x1024.Idx) : S1x128x1024.Idx := ix3 (0 : Fin 1) (i 0) (i 1)

/-- The activation: a number over one plus the exponential of minus itself, clipped. -/
def act (y : EReal) : EReal :=
  Ideal.div y (Ideal.ofBits .f32 0x3F800000#32
    + Ideal.exp (-(min (Ideal.ofBits .f32 0x42700000#32) (max (Ideal.ofBits .f32 0xC2700000#32) y))))

theorem cast_up {φ : EltTy} (v : Vec Ideal S128x1024 φ) (i : S128x1024.Idx) :
    shapeCast S1x128x1024 v shapeCasts_S128x1024_S1x128x1024 (up i) = v i := by
  exact (shapeCast_ab_1ab_apply (a := 128) (b := 1024) v shapeCasts_S128x1024_S1x128x1024 0 (i 0) (i 1)).trans
    (congrArg v (eq_ix2 i).symm)

theorem cast_down {φ : EltTy} (v : Vec Ideal S1x128x1024 φ) (i : S128x1024.Idx) :
    shapeCast S128x1024 v shapeCasts_S1x128x1024_S128x1024 i = v (up i) := by
  exact (congrArg _ (eq_ix2 i)).trans
    (shapeCast_1ab_ab_apply (a := 128) (b := 1024) v shapeCasts_S1x128x1024_S128x1024 (i 0) (i 1))

theorem seed_at (v : Vec Ideal S128x1024 .f32) (i : S128x1024.Idx) : k0_pay2 v (up i) = v i := by
  unfold k0_pay2
  rw [shapeCast_self]
  exact cast_up (φ := .bf16) _ i

theorem accNarrow_at (v : Vec Ideal S128x1024 .f32) (w : Vec Ideal S1x128x1024 .bf16) (i : S128x1024.Idx) :
    accNarrow v w (up i) = v i + w (up i) := by
  unfold accNarrow k0_pay100
  rw [shapeCast_self]
  refine (cast_up (φ := .bf16) _ i).trans ?_
  exact congrArg (v i + ·) (cast_down (φ := .bf16) w i)

theorem narrow_at (v : FVec Ideal S128x1024 .f32) (i : S128x1024.Idx) : narrow v (up i) = v i := cast_up (φ := .bf16) _ i

theorem widen_at (w : Vec Ideal S1x128x1024 .bf16) (i : S128x1024.Idx) : widen w i = w (up i) := cast_down (φ := .bf16) w i

theorem accAct_at (v : Vec Ideal S128x1024 .f32) (w : Vec Ideal S1x128x1024 .bf16) (i : S128x1024.Idx) :
    accAct v w i = act (v i + w (up i)) := by
  unfold accAct k0_pay101
  rw [shapeCast_self]
  rw [← cast_down (φ := .bf16) w i]
  show Ideal.div _ (_ + Ideal.exp (Ideal.ofBits .f32 0x00000000#32 - _)) = _
  rw [Ideal.ofBits_zero_f32, zero_sub]
  rfl

/-! ## The products -/

section Values

variable (X : Dev nD → Vec Ideal S4096x256 .f32) (W : Dev nD → Vec Ideal S256x2048 .f32)

/-- Device `d`'s product at an element of the result. -/
def prod (d : Dev nD) (I : S4096x2048.Idx) : EReal := ∑ k : Fin 256, X d (ix2 (I 0) k) * W d (ix2 k (I 1))

theorem chunk_at (d : Dev nD) (q : Fin 16) (i : S256x2048.Idx) : chunk X W d q i = prod X W d ((chunkRect q).idx i) := by
  unfold chunk k0_pay1
  rw [shapeCast_self, shapeCast_self]
  refine (congrArg _ (eq_ix2 i)).trans ((Ideal.matmul_plain_apply (M := 256) (K := 256) (N := 2048) (φ₁ := .f32) (φ₂ := .f32) none
    (fun i => X d ((rowRect q).idx i)) (W d) (constant S256x2048 .f32 0x00000000#32) (i 0) (i 1)).trans ?_)
  rw [show constant (F := Ideal) S256x2048 .f32 0x00000000#32 (ix2 (i 0) (i 1)) = (0 : EReal) from Ideal.ofBits_zero_f32, zero_add]
  unfold prod
  refine Finset.sum_congr rfl fun k _ => ?_
  have e1 : (rowRect q).idx (ix2 (i 0) k) = ix2 ((chunkRect q).idx i 0) k := by
    funext a; apply Fin.ext; rw [Rect.idx_unit_val]
    match a with
    | ⟨0, _⟩ => exact (Rect.idx_unit_val ..).symm
    | ⟨1, _⟩ => exact Nat.zero_add _
  have e2 : (ix2 k (i 1) : S256x2048.Idx) = ix2 k ((chunkRect q).idx i 1) := by
    funext a; apply Fin.ext
    match a with
    | ⟨0, _⟩ => rfl
    | ⟨1, _⟩ => exact ((Rect.idx_unit_val ..).trans (Nat.zero_add _)).symm
  rw [e1, e2]
  rfl

theorem tab_at (d : Dev nD) (y : Key) (i : S128x1024.Idx) : tab X W d y i = prod X W d ((keyRect y).idx i) := by
  unfold tab
  rw [chunk_at, ← keyRect_idx]

/-! ## The sums around the ring -/

/-- The device `s` places behind. -/
def behind (b : Bool) : ℕ → Dev nD → Dev nD
  | 0, c => c
  | s + 1, c => behind b s (nbr (!b) c)

/-- The block of the sum device `c` sends in copy `t`. -/
def sentKey (b : Bool) (c : Dev nD) (t : ℕ) : Key :=
  (b, ⟨(if b then c.val + 32 - t / 2 else c.val + t / 2) % 16, Nat.mod_lt _ (by decide)⟩, halfN t)

theorem sentKey_first : ∀ (b : Bool) (c : Dev nD) (j : Fin 2), sentKey b c j.val = (b, c, j) := by decide +kernel
theorem sentKey_next : ∀ (b : Bool) (c : Dev nD) (t : Fin 30), sentKey b (nbr (!b) c) t.val = rsKey b c t.val := by decide +kernel
theorem sentKey_rs : ∀ (b : Bool) (c : Dev nD) (t : Fin 30), sentKey b c (t.val + 2) = rsKey b c t.val := by decide +kernel
theorem finKey_next : ∀ (b : Bool) (c : Dev nD) (n : Fin 30), finKey b (nbr (!b) c) n.val = finKey b c (n.val + 2) := by decide +kernel
theorem behind_inj : ∀ (b : Bool) (c : Dev nD) (s s' : Fin 16), behind b s.val c = behind b s'.val c → s = s' := by decide +kernel

theorem sum_behind (b : Bool) (c : Dev nD) (f : Dev nD → EReal) : ∑ s : Fin 16, f (behind b s.val c) = ∑ d : Dev nD, f d :=
  Function.Bijective.sum_comp ((Finite.injective_iff_bijective (f := fun s : Fin 16 => (behind b s.val c : Fin 16))).mp fun s s' h => behind_inj b c s s' h) f

/-- What is sent in copy `t` is the sum of the products of the devices behind, as many as the copy's round. -/
theorem rsSent_at (b : Bool) : ∀ (t : ℕ), t < 30 → ∀ (c : Dev nD) (i : S128x1024.Idx),
    rsSent X W b t c (up i) = ∑ s ∈ Finset.range (t / 2 + 1), prod X W (behind b s c) ((keyRect (sentKey b c t)).idx i)
  | 0, _, c, i => by
    rw [show rsSent X W b 0 c = k0_pay2 (tab X W c (b, c, 0)) from rfl, seed_at, tab_at, ← sentKey_first b c 0]
    exact (Finset.sum_range_one (fun s => prod X W (behind b s c) ((keyRect (sentKey b c 0)).idx i))).symm
  | 1, _, c, i => by
    rw [show rsSent X W b 1 c = k0_pay2 (tab X W c (b, c, 1)) from rfl, seed_at, tab_at, ← sentKey_first b c 1]
    exact (Finset.sum_range_one (fun s => prod X W (behind b s c) ((keyRect (sentKey b c 1)).idx i))).symm
  | t + 2, h, c, i => by
    have ht : t < 30 := by omega
    rw [show rsSent X W b (t + 2) c = accNarrow (tab X W c (rsKey b c t)) (rsSent X W b t (nbr (!b) c)) from rfl,
      accNarrow_at, tab_at, rsSent_at b t ht, sentKey_next b c ⟨t, ht⟩, sentKey_rs b c ⟨t, ht⟩,
      show (t + 2) / 2 + 1 = (t / 2 + 1) + 1 by omega, Finset.sum_range_succ' _ (t / 2 + 1), add_comm]
    rfl

/-- The sum over all devices at an element of the result, passed through the activation. -/
def total (I : S4096x2048.Idx) : EReal := act (∑ d : Dev nD, prod X W d I)

theorem fin_at (b : Bool) (c : Dev nD) (j : Fin 2) (i : S128x1024.Idx) : fin X W b c j.val i = total X W ((keyRect (finKey b c j.val)).idx i) := by
  have ht : 28 + j.val < 30 := by omega
  unfold fin total
  rw [accAct_at, tab_at, rsSent_at X W b (28 + j.val) ht, sentKey_next b c ⟨28 + j.val, ht⟩, rsKey_last,
    show (28 + j.val) / 2 + 1 = 15 by omega, ← sum_behind b c, ← Fin.sum_univ_eq_sum_range (fun s => prod X W (behind b s (nbr (!b) c)) _) 15, Fin.sum_univ_succ]
  rfl

theorem agSent_at (b : Bool) : ∀ (n : ℕ), n < 30 → ∀ (c : Dev nD) (i : S128x1024.Idx),
    agSent X W b n c (up i) = total X W ((keyRect (finKey b c n)).idx i)
  | 0, _, c, i => (narrow_at _ i).trans (fin_at X W b c 0 i)
  | 1, _, c, i => (narrow_at _ i).trans (fin_at X W b c 1 i)
  | n + 2, h, c, i => by
    have hn : n < 30 := by omega
    rw [show agSent X W b (n + 2) c = agSent X W b n (nbr (!b) c) from rfl, agSent_at b n hn, finKey_next b c ⟨n, hn⟩]

theorem finVal_at (b : Bool) (c : Dev nD) (i : S128x1024.Idx) : ∀ (n : ℕ), n < 32 →
    finVal X W b c n i = total X W ((keyRect (finKey b c n)).idx i)
  | 0, _ => fin_at X W b c 0 i
  | 1, _ => fin_at X W b c 1 i
  | n + 2, h => by
    have hn : n < 30 := by omega
    rw [show finVal X W b c (n + 2) = widen (agSent X W b n (nbr (!b) c)) from rfl, widen_at, agSent_at X W b n hn, finKey_next b c ⟨n, hn⟩]

/-- Every device's result is the same: at each element the activation of the whole sum. -/
theorem outAt_at (c : Dev nD) (I : S4096x2048.Idx) : outAt X W c I = total X W I := by
  unfold outAt
  rw [finVal_at X W _ c _ _ (finIx_lt c _), finKey_finIx, key_loc]

end Values

end Cert.KernelIdeal.Ring
-- ==== Proof.Algebraic.lean ====
/- The value claim: over the extended reals every device's result is the reference's, of the whole arrays. -/
module

public import proofs.«01_k».proof.Defs
public import proofs.«01_k».proof.Proof.Value
public import proofs.«01_k».proof.Proof.Gen.ReferenceIdeal
public import proofs.«01_k».proof.Proof.Gen.ReferenceIdeal.Run
public import Idealize.ShloMosaic.Lib.IdealHost
public import Idealize.ShloMosaic.Lib.StackMember

@[expose] public section

set_option maxRecDepth 100000

noncomputable section

namespace Cert.KernelIdeal.Ring

open Idealize.ShloMosaic Idealize.ShloMosaic.TcCoe Idealize.ShloMosaic.ValueIdx Cert.KernelIdeal.Gen Idealize.SL.Sem
open scoped BigOperators

/-! ## The final memory, as arrays -/

section Final

variable (m : (ℓ : Loc nD τ sig) → Buf (Elt Ideal) ℓ)

theorem start_x : (fun a => (win0_0.index t0_0) a * main_arg0.ty.shape.size a) = fun _ => 0 := funext fun a => by fin_cases a <;> decide
theorem start_w : (fun a => (win0_1.index t0_0) a * main_arg1.ty.shape.size a) = fun _ => 0 := funext fun a => by fin_cases a <;> decide
theorem start_o : (fun a => (win0_2.index t0_0) a * main_v1.ty.shape.size a) = fun _ => 0 := funext fun a => by fin_cases a <;> decide

theorem xAt_eq (c : Dev nD) : xAt m c = m ((c : Thread nD τ).loc main_arg0) :=
  Memref.read_access_unit_zero (Elt Ideal) main_arg0 start_x (fun a => by fin_cases a <;> decide) _

theorem wAt_eq (c : Dev nD) : wAt m c = m ((c : Thread nD τ).loc main_arg1) :=
  Memref.read_access_unit_zero (Elt Ideal) main_arg1 start_w (fun a => by fin_cases a <;> decide) _

/-- The result's buffer holds, in the end, what its one flush wrote. -/
theorem finalA_o (c : Dev nD) : finalA m c (2 : Fin 3) = outAt (xAt m) (wAt m) c := by
  have h : ((cfg0.win 2).blk t0_0).view.read (Elt Ideal) (finalA m c (2 : Fin 3)) = outAt (xAt m) (wAt m) c := by
    unfold finalA
    rw [show cfg0.N = t0_0.val + 1 from rfl, (dats m 0 c).arrAt_succ (2 : Fin 3) t0_0, flush0_2 t0_0, if_pos rfl]
    exact View.read_write_univ _ _
  exact (Memref.read_access_unit_zero (Elt Ideal) main_v1 start_o (fun a => by fin_cases a <;> decide) _).symm.trans h

end Final

/-! ## The reference, element by element -/

/-- The products over the whole inner axis are the devices' products, added up. -/
theorem sum_split (f : Fin 4096 → EReal) (g : Fin 16 → Fin 256 → Fin 4096) (hg : ∀ d k, (g d k).val = d.val * 256 + k.val) :
    ∑ K : Fin 4096, f K = ∑ d : Fin 16, ∑ k : Fin 256, f (g d k) := by
  rw [← Fintype.sum_prod_type' (f := fun d k => f (g d k))]
  refine (Equiv.sum_comp (finProdFinEquiv (m := 16) (n := 256)) f).symm.trans (Finset.sum_congr rfl fun p _ => congrArg f (Fin.ext ?_))
  rw [hg]
  show p.2.val + 256 * p.1.val = _
  omega

theorem product_at (x : Vec Ideal Cert.ReferenceIdeal.S4096x4096 .f32) (w : Vec Ideal Cert.ReferenceIdeal.S4096x2048 .f32) (X : Dev nD → Vec Ideal S4096x256 .f32)
    (W : Dev nD → Vec Ideal S256x2048 .f32) (hX : ∀ c, X c = Layout.block ⟨2, ![4096, 256]⟩ ⟨2, ![4096, 4096]⟩ 1 16 c x)
    (hW : ∀ c, W c = Layout.block ⟨2, ![256, 2048]⟩ ⟨2, ![4096, 2048]⟩ 0 16 c w) (I : S4096x2048.Idx) :
    Host.dotGeneral (F := Ideal) (φ₁ := .f32) (φ₂ := .f32) Cert.ReferenceIdeal.dot_S4096x4096_S4096x2048_S4096x2048_1_0_0_1_n_n none x w I
      = ∑ d : Dev nD, prod X W d I := by
  refine (congrArg _ (eq_ix2 I)).trans ((Idealize.ShloMosaic.StackMember.dotGeneral_plain_apply (m := 4096) (k := 4096) (n := 2048) (φ₁ := .f32) (φ₂ := .f32) none x w (I 0) (I 1)).trans ?_)
  refine (sum_split _ (fun d k => ⟨d.val * 256 + k.val, by omega⟩) fun _ _ => rfl).trans ?_
  refine Finset.sum_congr rfl fun d _ => Finset.sum_congr rfl fun k _ => ?_
  rw [hX, hW]
  refine congrArg₂ (· * ·) (congrArg x ?_) (congrArg w ?_) <;>
  · funext a; apply Fin.ext
    match a with
    | ⟨0, _⟩ => rfl
    | ⟨1, _⟩ => rfl

end Cert.KernelIdeal.Ring

namespace Cert.Proof

open Idealize.ShloMosaic Idealize.ShloMosaic.TcCoe Idealize.ShloMosaic.ValueIdx Idealize.SL.Sem Cert.KernelIdeal.Ring

/-- The reference's term is the kernel's total, element by element. -/
theorem reference_at (x : Vec Ideal Cert.ReferenceIdeal.S4096x4096 .f32) (w : Vec Ideal Cert.ReferenceIdeal.S4096x2048 .f32)
    (X : Dev Cert.KernelIdeal.nD → Vec Ideal Cert.KernelIdeal.S4096x256 .f32) (W : Dev Cert.KernelIdeal.nD → Vec Ideal Cert.KernelIdeal.S256x2048 .f32)
    (hX : ∀ c, X c = Layout.block ⟨2, ![4096, 256]⟩ ⟨2, ![4096, 4096]⟩ 1 16 c x)
    (hW : ∀ c, W c = Layout.block ⟨2, ![256, 2048]⟩ ⟨2, ![4096, 2048]⟩ 0 16 c w) (c : Dev Cert.KernelIdeal.nD) (y : Vec Ideal Cert.ReferenceIdeal.S4096x2048 .f32)
    (hy : y = Host.dotGeneral (F := Ideal) (φ₁ := .f32) (φ₂ := .f32) Cert.ReferenceIdeal.dot_S4096x4096_S4096x2048_S4096x2048_1_0_0_1_n_n none x w) :
    outAt X W c = Host.divf (F := Ideal) y (addf (broadcastInDim Cert.ReferenceIdeal.S4096x2048 ![] Cert.ReferenceIdeal.Facts₀.bcast_S_S4096x2048 (constant Cert.ReferenceIdeal.S_ .f32 0x3F800000#32))
      (Host.exp (Host.negf (minimumf (broadcastInDim Cert.ReferenceIdeal.S4096x2048 ![] Cert.ReferenceIdeal.Facts₀.bcast_S_S4096x2048 (id (constant Cert.ReferenceIdeal.S_ .f32 0x42700000#32)))
        (maximumf (broadcastInDim Cert.ReferenceIdeal.S4096x2048 ![] Cert.ReferenceIdeal.Facts₀.bcast_S_S4096x2048 (id (constant Cert.ReferenceIdeal.S_ .f32 0xC2700000#32))) y))))) := by
  funext I
  rw [outAt_at]
  unfold total
  rw [← product_at x w X W hX hW I, ← hy]
  rfl

theorem algebraic : Cert.algebraic_KernelIdeal_ReferenceIdeal := by
  intro m g m' g' _ hin
  refine ⟨_, ?_, (θ_run Cert.ReferenceIdeal.defs _ _).mono (fun _ h => h 0) (Cert.ReferenceIdeal.Value.run (F := Ideal) m' g')⟩
  refine (θ_run Cert.KernelIdeal.defs _ _).mono (fun r h c => ⟨(h.1 c (2 : Fin 3)).trans ?_, (h.1 c (0 : Fin 3)).trans (finalA_x m c),
    (h.1 c (1 : Fin 3)).trans (finalA_w m c)⟩) (run_main (F := Ideal) m g)
  rw [finalA_o]
  exact reference_at _ _ _ _ (fun c => (xAt_eq m c).trans (hin c).1) (fun c => (wAt_eq m c).trans (hin c).2) c _ rfl

end Cert.Proof

end
-- ==== Proof.lean ====
/- The claims, from the runs of the programs. -/
module

public import proofs.«01_k».proof.Defs
public import proofs.«01_k».proof.Proof.Frames
public import proofs.«01_k».proof.Proof.Algebraic
public import proofs.«01_k».proof.Proof.Gen.ReferenceIdeal
public import proofs.«01_k».proof.Proof.Gen.ReferenceIdeal.Run

@[expose] public section

noncomputable section

namespace Cert.Proof

open Idealize.ShloMosaic Idealize.SL.Sem

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  frame_kernel, frame_ideal, frame_reference, trivial, algebraic⟩

end Cert.Proof

end
